-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S2x256x4096 : Shape := ⟨3, ![2, 256, 4096]⟩
abbrev S2 : Shape := ⟨1, ![2]⟩
abbrev S_ : Shape := ⟨0, ![]⟩
abbrev S1 : Shape := ⟨1, ![1]⟩
abbrev S1x256x4096 : Shape := ⟨3, ![1, 256, 4096]⟩
abbrev S256x4096 : Shape := ⟨2, ![256, 4096]⟩
abbrev S512x1024 : Shape := ⟨2, ![512, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S4096x1024, .f32⟩
  | .hbm, ⟨2, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S4096x1024, .f32⟩
  | .local _ .vmem, ⟨3, _⟩ => ⟨S2x256x4096, .f32⟩
  | .local _ .vmem, ⟨4, _⟩ => ⟨S2x256x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 3 11 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_23 : BitVec 32 := 1#32
  let v31 : BitVec 32 := Scalar.muli v25 c1_i32_23
  let v32 : BitVec 32 := Scalar.addi c0_i32_24 v31
  v32.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_32 : BitVec 32 := 1#32
  let v40 : BitVec 32 := Scalar.muli v14 c1_i32_32
  let v41 : BitVec 32 := Scalar.addi c0_i32_33 v40
  v41.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v54 : BitVec 32 := Scalar.muli v2 c512_i32
  let v55 : Index := Scalar.indexCast v54
  let c0_40 : Index := 0#32
  ![v55.toNat, 0]
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_76 : BitVec 32 := 1#32
  let v81 : BitVec 32 := Scalar.muli v14 c1_i32_76
  let v82 : BitVec 32 := Scalar.addi c0_i32_77 v81
  v82.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_79 : BitVec 32 := 1#32
  let v83 : BitVec 32 := Scalar.muli v25 c1_i32_79
  let v84 : BitVec 32 := Scalar.addi c0_i32_80 v83
  v84.toNat
def k0_dev7 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_87 : BitVec 32 := 1#32
  let v85 : BitVec 32 := Scalar.muli v25 c1_i32_87
  let v86 : BitVec 32 := Scalar.addi c0_i32_88 v85
  v86.toNat
def k0_dev8 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_99 : BitVec 32 := 1#32
  let v95 : BitVec 32 := Scalar.muli v14 c1_i32_99
  let v96 : BitVec 32 := Scalar.addi c0_i32_100 v95
  v96.toNat
def k0_off2 (d0 : Dev nD) (c0_i32_105 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v105 : BitVec 32 := Scalar.subi v2 c0_i32_105
  let c1_i32_106 : BitVec 32 := 1#32
  let v106 : BitVec 32 := Scalar.subi v105 c1_i32_106
  let c8_i32_107 : BitVec 32 := 8#32
  let v107 : BitVec 32 := Scalar.addi v106 c8_i32_107
  let c8_i32_108 : BitVec 32 := 8#32
  let c0_i32_109 : BitVec 32 := 0#32
  let v108 : BitVec 1 := Scalar.cmpi .eq c8_i32_108 c0_i32_109
  let c1_i32_110 : BitVec 32 := 1#32
  let v109 : BitVec 32 := Scalar.select v108 c1_i32_110 c8_i32_108
  let v110 : BitVec 32 := Scalar.remsi v107 v109
  let c0_i32_112 : BitVec 32 := 0#32
  let v112 : BitVec 1 := Scalar.cmpi .slt v110 c0_i32_112
  let c0_i32_113 : BitVec 32 := 0#32
  let v113 : BitVec 1 := Scalar.cmpi .slt v109 c0_i32_113
  let v114 : BitVec 1 := Scalar.xori v112 v113
  let c0_i32_111 : BitVec 32 := 0#32
  let v111 : BitVec 1 := Scalar.cmpi .ne v110 c0_i32_111
  let v115 : BitVec 1 := Scalar.andi v114 v111
  let v116 : BitVec 32 := Scalar.addi v110 v109
  let v117 : BitVec 32 := Scalar.select v115 v116 v110
  let c512_i32_120 : BitVec 32 := 512#32
  let v123 : BitVec 32 := Scalar.muli v117 c512_i32_120
  let v124 : Index := Scalar.indexCast v123
  let c0_121 : Index := 0#32
  ![v124.toNat, 0]
def k0_off3 (d0 : Dev nD) (c0_i32_122 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v126 : BitVec 32 := Scalar.addi v2 c0_i32_122
  let c1_i32_123 : BitVec 32 := 1#32
  let v127 : BitVec 32 := Scalar.addi v126 c1_i32_123
  let c8_i32_124 : BitVec 32 := 8#32
  let c0_i32_125 : BitVec 32 := 0#32
  let v128 : BitVec 1 := Scalar.cmpi .eq c8_i32_124 c0_i32_125
  let c1_i32_126 : BitVec 32 := 1#32
  let v129 : BitVec 32 := Scalar.select v128 c1_i32_126 c8_i32_124
  let v130 : BitVec 32 := Scalar.remsi v127 v129
  let c0_i32_128 : BitVec 32 := 0#32
  let v132 : BitVec 1 := Scalar.cmpi .slt v130 c0_i32_128
  let c0_i32_129 : BitVec 32 := 0#32
  let v133 : BitVec 1 := Scalar.cmpi .slt v129 c0_i32_129
  let v134 : BitVec 1 := Scalar.xori v132 v133
  let c0_i32_127 : BitVec 32 := 0#32
  let v131 : BitVec 1 := Scalar.cmpi .ne v130 c0_i32_127
  let v135 : BitVec 1 := Scalar.andi v134 v131
  let v136 : BitVec 32 := Scalar.addi v130 v129
  let v137 : BitVec 32 := Scalar.select v135 v136 v130
  let c512_i32_136 : BitVec 32 := 512#32
  let v143 : BitVec 32 := Scalar.muli v137 c512_i32_136
  let c256_i32_137 : BitVec 32 := 256#32
  let v144 : BitVec 32 := Scalar.addi v143 c256_i32_137
  let v145 : Index := Scalar.indexCast v144
  let c0_138 : Index := 0#32
  ![v145.toNat, 0]
def k0_dev9 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_178 : BitVec 32 := 1#32
  let v175 : BitVec 32 := Scalar.muli v14 c1_i32_178
  let v176 : BitVec 32 := Scalar.addi c0_i32_179 v175
  v176.toNat
def k0_dev10 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_181 : BitVec 32 := 1#32
  let v177 : BitVec 32 := Scalar.muli v25 c1_i32_181
  let v178 : BitVec 32 := Scalar.addi c0_i32_182 v177
  v178.toNat
def k0_dev11 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_189 : BitVec 32 := 1#32
  let v179 : BitVec 32 := Scalar.muli v25 c1_i32_189
  let v180 : BitVec 32 := Scalar.addi c0_i32_190 v179
  v180.toNat
def k0_dev12 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_201 : BitVec 32 := 1#32
  let v189 : BitVec 32 := Scalar.muli v14 c1_i32_201
  let v190 : BitVec 32 := Scalar.addi c0_i32_202 v189
  v190.toNat
def k0_dev13 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_279 : BitVec 32 := 1#32
  let v269 : BitVec 32 := Scalar.muli v14 c1_i32_279
  let v270 : BitVec 32 := Scalar.addi c0_i32_280 v269
  v270.toNat
def k0_dev14 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_282 : BitVec 32 := 1#32
  let v271 : BitVec 32 := Scalar.muli v25 c1_i32_282
  let v272 : BitVec 32 := Scalar.addi c0_i32_283 v271
  v272.toNat
def k0_dev15 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_290 : BitVec 32 := 1#32
  let v273 : BitVec 32 := Scalar.muli v25 c1_i32_290
  let v274 : BitVec 32 := Scalar.addi c0_i32_291 v273
  v274.toNat
def k0_dev16 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_302 : BitVec 32 := 1#32
  let v283 : BitVec 32 := Scalar.muli v14 c1_i32_302
  let v284 : BitVec 32 := Scalar.addi c0_i32_303 v283
  v284.toNat
def k0_dev17 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_381 : BitVec 32 := 1#32
  let v363 : BitVec 32 := Scalar.muli v14 c1_i32_381
  let v364 : BitVec 32 := Scalar.addi c0_i32_382 v363
  v364.toNat
def k0_dev18 (d0 : Dev nD) : Nat :=
  let c0_i32_385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_384 : BitVec 32 := 1#32
  let v365 : BitVec 32 := Scalar.muli v25 c1_i32_384
  let v366 : BitVec 32 := Scalar.addi c0_i32_385 v365
  v366.toNat
def k0_dev19 (d0 : Dev nD) : Nat :=
  let c0_i32_393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_392 : BitVec 32 := 1#32
  let v367 : BitVec 32 := Scalar.muli v25 c1_i32_392
  let v368 : BitVec 32 := Scalar.addi c0_i32_393 v367
  v368.toNat
def k0_dev20 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_404 : BitVec 32 := 1#32
  let v377 : BitVec 32 := Scalar.muli v14 c1_i32_404
  let v378 : BitVec 32 := Scalar.addi c0_i32_405 v377
  v378.toNat
def k0_dev21 (d0 : Dev nD) : Nat :=
  let c0_i32_483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_482 : BitVec 32 := 1#32
  let v457 : BitVec 32 := Scalar.muli v14 c1_i32_482
  let v458 : BitVec 32 := Scalar.addi c0_i32_483 v457
  v458.toNat
def k0_dev22 (d0 : Dev nD) : Nat :=
  let c0_i32_486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_485 : BitVec 32 := 1#32
  let v459 : BitVec 32 := Scalar.muli v25 c1_i32_485
  let v460 : BitVec 32 := Scalar.addi c0_i32_486 v459
  v460.toNat
def k0_dev23 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_493 : BitVec 32 := 1#32
  let v461 : BitVec 32 := Scalar.muli v25 c1_i32_493
  let v462 : BitVec 32 := Scalar.addi c0_i32_494 v461
  v462.toNat
def k0_dev24 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_505 : BitVec 32 := 1#32
  let v471 : BitVec 32 := Scalar.muli v14 c1_i32_505
  let v472 : BitVec 32 := Scalar.addi c0_i32_506 v471
  v472.toNat
def k0_dev25 (d0 : Dev nD) : Nat :=
  let c0_i32_584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_583 : BitVec 32 := 1#32
  let v551 : BitVec 32 := Scalar.muli v14 c1_i32_583
  let v552 : BitVec 32 := Scalar.addi c0_i32_584 v551
  v552.toNat
def k0_dev26 (d0 : Dev nD) : Nat :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_586 : BitVec 32 := 1#32
  let v553 : BitVec 32 := Scalar.muli v25 c1_i32_586
  let v554 : BitVec 32 := Scalar.addi c0_i32_587 v553
  v554.toNat
def k0_dev27 (d0 : Dev nD) : Nat :=
  let c0_i32_595 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_594 : BitVec 32 := 1#32
  let v555 : BitVec 32 := Scalar.muli v25 c1_i32_594
  let v556 : BitVec 32 := Scalar.addi c0_i32_595 v555
  v556.toNat
def k0_dev28 (d0 : Dev nD) : Nat :=
  let c0_i32_607 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_606 : BitVec 32 := 1#32
  let v565 : BitVec 32 := Scalar.muli v14 c1_i32_606
  let v566 : BitVec 32 := Scalar.addi c0_i32_607 v565
  v566.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Steps.lean ====
/-
# The kernel body as a sequence of steps

The body of the ring kernel is straight-line code: a prologue, seven hops written out one after another, and after each
hop two matrix products. This module names the buffers and semaphores the hops use, indexed by the direction of travel
(`false` for the stream moving to the next device, `true` for the one moving to the previous device) and by the slot, and
writes each repeated stretch of the body once. `body_eq` says the printed body is the sequence of these stretches.
-/
module

public import proofs.«01_k».proof.Proof.Gen.KernelIdeal.Frame
public import proofs.«01_k».proof.Proof.Gen.KernelIdeal.Skeleton

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

/-! ## Buffers -/

/-- The staged block of `x`. -/
abbrev xM : Memref sig .tc .vmem S512x4096 .f32 := Memref.whole cc0_stg0_0
/-- The staged block of `w`. -/
abbrev wM : Memref sig .tc .vmem S4096x1024 .f32 := Memref.whole cc0_stg1_0
/-- The staged result. -/
abbrev oM : Memref sig .tc .vmem S4096x1024 .f32 := Memref.whole cc0_stg2_0

/-- The two-slot landing buffer of a direction. -/
def bufM (d : Bool) : Memref sig .tc .vmem S2x256x4096 .f32 :=
  match d with
  | false => Memref.whole cc0_scratch0
  | true => Memref.whole cc0_scratch1

/-- A slot lies in its buffer. -/
theorem slot_inb (s : Fin 2) : ∀ a, (![s.val, 0, 0] : Fin 3 → Nat) a + S1x256x4096.size a ≤ S2x256x4096.size a := by
  revert s; decide

/-- One slot of a landing buffer, as the rectangle of the three-dimensional buffer. -/
abbrev slotR (s : Fin 2) : Rect S2x256x4096 := Rect.unit (s := S2x256x4096) ![s.val, 0, 0] S1x256x4096.size (slot_inb s)

/-- One slot of a landing buffer, as the matrix the transfers move. -/
def slotM (d : Bool) (s : Fin 2) : Memref sig .tc .vmem S256x4096 .f32 :=
  ((bufM d).slice (slotR s) (fun _ => rfl)).squeeze S256x4096 squeezes_S1x256x4096_S256x4096

/-- The first row of the half of `x` a direction carries. -/
def halfOff (d : Bool) : ℕ := match d with | false => 0 | true => 256

/-- A half lies in the block. -/
theorem half_inb (d : Bool) : ∀ a, (![halfOff d, 0] : Fin 2 → Nat) a + S256x4096.size a ≤ S512x4096.size a := by
  revert d; decide

/-- The half of `x` a direction carries, as rows of the staged block. -/
abbrev halfR (d : Bool) : Rect S512x4096 := Rect.unit (s := S512x4096) ![halfOff d, 0] S256x4096.size (half_inb d)

/-- A half of the staged block. -/
def halfM (d : Bool) : Memref sig .tc .vmem S256x4096 .f32 := xM.slice (halfR d) (fun _ => rfl)

/-- The slot a hop lands in. -/
def sl (j : ℕ) : Fin 2 := ⟨j % 2, Nat.mod_lt _ (by decide)⟩

/-- What hop `j` sends: the device's own half of `x` first, then the slot the hop before landed in. -/
def srcM (d : Bool) (j : ℕ) : Memref sig .tc .vmem S256x4096 .f32 :=
  match j with
  | 0 => halfM d
  | j + 1 => slotM d (sl j)

/-- A slot is whole words, -/
theorem slotM_word (d : Bool) (s : Fin 2) : (slotM d s).view.WordExact := (View.wordExact_bits rfl).reshape _ _
/-- and so is a source. -/
theorem srcM_word (d : Bool) (j : ℕ) : (srcM d j).view.WordExact :=
  match j with
  | 0 => View.wordExact_bits rfl
  | j + 1 => slotM_word d (sl j)

/-! ## Semaphores -/

/-- The transfers' semaphores exist. -/
theorem semIx_lt (d : Bool) (k : Fin 4) : 3 + 4 * d.toNat + k.val < sig.nDmaSem := by revert d k; decide

/-- The semaphore a send from the device completes on, slot by slot. -/
def sendS (d : Bool) (s : Fin 2) : DmaSem sig := ⟨3 + 4 * d.toNat + s.val, semIx_lt d (Fin.castLE (by decide) s)⟩
/-- The semaphore a transfer into the device completes on, slot by slot. -/
def recvS (d : Bool) (s : Fin 2) : DmaSem sig := ⟨3 + 4 * d.toNat + (2 + s.val), semIx_lt d (Fin.natAdd 2 s)⟩
/-- The semaphore on which a device is told the next slot downstream is free. -/
def credS (d : Bool) : Sem sig := match d with | false => cc0_scratch6.sem | true => cc0_scratch7.sem
/-- The barrier semaphore. -/
def barS : Sem sig := (SemArray.scalar (sig.barrier 0 rfl) : Sems sig S_).sem

/-! ## Steps -/

/-- A program of a TensorCore. -/
abbrev P (F : FTy → Type) [FloatOps F] : Type → Type 1 := Prog (TpuEff nD τ sig (Elt F) Λ₀ .tc)

/-- Wait for the send of hop `j`, then for the block of hop `j` to land. -/
def waitStep (d : Bool) (j : ℕ) : P F PUnit := do
  Prog.lift (.waitDma2 (sendS d (sl j)) (slotM d (sl j)) (srcM d j) (slotM_word d _) (srcM_word d j))
  Prog.lift (.waitDma2 (recvS d (sl j)) (srcM d j) (slotM d (sl j)) (srcM_word d j) (slotM_word d _))

/-- Start hop `j` towards device `n`. -/
def sendStep (d : Bool) (j : ℕ) (n : Dev nD) : P F PUnit :=
  Prog.lift (.enqueueDma (srcM d j) (.remote (Dev.tc n) (slotM d (sl j)) (.dma (sendS d (sl j)))) (.dma (recvS d (sl j)))
    (srcM_word d j) (slotM_word d _) ⟨⟨rfl, Or.inl rfl⟩, trivial⟩)

/-- Tell device `n` that the slot its next hop lands in is free. -/
def creditStep (d : Bool) (n : Dev nD) : P F PUnit := semSignalWord n (credS d) 1#32

/-- Wait to be told the slot the next hop lands in is free. -/
def awaitStep (d : Bool) : P F PUnit := semWaitWord (credS d) 1#32

/-- Multiply the block in a slot by `w` and store the product in the result's rows at `off`. -/
def dotStep (d : Bool) (s : Fin 2) (off : Fin 2 → ℕ) (inb : ∀ a, off a + S256x1024.size a ≤ S4096x1024.size a) : P F PUnit := do
  let v : Vec F S1x256x4096 .f32 ← Prog.lift (.load (bufM d) (slotR s).toLoadRect (View.loadsAt_vmem h_S1x256x4096))
  let w : Vec F S4096x1024 .f32 ← Prog.lift (.load wM (Rect.unit (s := S4096x1024) ![0, 0] S4096x1024.size inb_S4096x1024_S4096x1024_0_0).toLoadRect (View.loadsAt_vmem h_S4096x1024))
  let _o : Vec F S256x1024 .f32 ← Prog.lift (.load oM (Rect.unit (s := S4096x1024) off S256x1024.size inb).toLoadRect (View.loadsAt_vmem h_S256x1024))
  Prog.lift (.store oM (Rect.unit (s := S4096x1024) off S256x1024.size inb) (k0_pay2 v w) Finset.univ (View.stores_vmem_bits_univ h_S256x1024 rfl) (.inl rfl))

/-- Multiply the device's own block of `x` by `w` and store the product in its rows of the result. -/
def ownStep (c : Dev nD) : P F PUnit := do
  let x : Vec F S512x4096 .f32 ← Prog.lift (.load xM (Rect.unit (s := S512x4096) ![0, 0] S512x4096.size inb_S512x4096_S512x4096_0_0).toLoadRect (View.loadsAt_vmem h_S512x4096))
  let w : Vec F S4096x1024 .f32 ← Prog.lift (.load wM (Rect.unit (s := S4096x1024) ![0, 0] S4096x1024.size inb_S4096x1024_S4096x1024_0_0).toLoadRect (View.loadsAt_vmem h_S4096x1024))
  let _o : Vec F S512x1024 .f32 ← Prog.lift (.load oM (Rect.unit (s := S4096x1024) (k0_off1 c) S512x1024.size (k0_off1_inb c)).toLoadRect (View.loadsAt_vmem h_S512x1024))
  Prog.lift (.store oM (Rect.unit (s := S4096x1024) (k0_off1 c) S512x1024.size (k0_off1_inb c)) (k0_pay1 x w) Finset.univ (View.stores_vmem_bits_univ h_S512x1024 rfl) (.inl rfl))

/-- The handshake with both neighbours, then the first sends and the device's own product. -/
def prologue (c l r n0 n1 : Dev nD) : P F PUnit := do
  semSignalWord l barS 1#32
  semSignalWord r barS 1#32
  semWaitWord barS 2#32
  sendStep false 0 n0
  sendStep true 0 n1
  ownStep c

/-- Both waits of hop `j`. -/
def waits (j : ℕ) : P F PUnit := do
  waitStep false j
  waitStep true j

/-- The credits of hop `j` and the sends of hop `j + 1`. -/
def forward (j : ℕ) (u0 u1 n0 n1 : Dev nD) : P F PUnit := do
  creditStep false u0
  creditStep true u1
  awaitStep false
  sendStep false (j + 1) n0
  awaitStep true
  sendStep true (j + 1) n1

/-- The two products after hop `j`. -/
def products (c : Dev nD) (j : Fin 7) : P F PUnit := do
  dotStep false (sl j.val) (k0_off2 c (BitVec.ofNat 32 j.val)) (k0_off2_inb c j)
  dotStep true (sl j.val) (k0_off3 c (BitVec.ofNat 32 j.val)) (k0_off3_inb c j)

/-- Hop `j`, not the last. -/
def hop (c : Dev nD) (j : Fin 7) (u0 u1 n0 n1 : Dev nD) : P F PUnit := do
  waits j.val
  forward j.val u0 u1 n0 n1
  products c j

/-- The last hop: nothing is sent on. -/
def lastHop (c : Dev nD) : P F PUnit := do
  waits 6
  products c 6

/-- The body at device `c`. -/
def bodyAt (c : Dev nD) : P F PUnit := do
  prologue c ⟨k0_dev1 c, k0_dev1_lt c⟩ ⟨k0_dev2 c, k0_dev2_lt c⟩ ⟨k0_dev3 c, k0_dev3_lt c⟩ ⟨k0_dev4 c, k0_dev4_lt c⟩
  hop c 0 ⟨k0_dev5 c, k0_dev5_lt c⟩ ⟨k0_dev6 c, k0_dev6_lt c⟩ ⟨k0_dev7 c, k0_dev7_lt c⟩ ⟨k0_dev8 c, k0_dev8_lt c⟩
  hop c 1 ⟨k0_dev9 c, k0_dev9_lt c⟩ ⟨k0_dev10 c, k0_dev10_lt c⟩ ⟨k0_dev11 c, k0_dev11_lt c⟩ ⟨k0_dev12 c, k0_dev12_lt c⟩
  hop c 2 ⟨k0_dev13 c, k0_dev13_lt c⟩ ⟨k0_dev14 c, k0_dev14_lt c⟩ ⟨k0_dev15 c, k0_dev15_lt c⟩ ⟨k0_dev16 c, k0_dev16_lt c⟩
  hop c 3 ⟨k0_dev17 c, k0_dev17_lt c⟩ ⟨k0_dev18 c, k0_dev18_lt c⟩ ⟨k0_dev19 c, k0_dev19_lt c⟩ ⟨k0_dev20 c, k0_dev20_lt c⟩
  hop c 4 ⟨k0_dev21 c, k0_dev21_lt c⟩ ⟨k0_dev22 c, k0_dev22_lt c⟩ ⟨k0_dev23 c, k0_dev23_lt c⟩ ⟨k0_dev24 c, k0_dev24_lt c⟩
  hop c 5 ⟨k0_dev25 c, k0_dev25_lt c⟩ ⟨k0_dev26 c, k0_dev26_lt c⟩ ⟨k0_dev27 c, k0_dev27_lt c⟩ ⟨k0_dev28 c, k0_dev28_lt c⟩
  lastHop c

/-- The body, with its arguments bound to the launch's buffers and semaphores. -/
def bodyProg : P F PUnit := do
  let c : Dev nD ← Prog.lift .deviceId
  bodyAt c

set_option maxRecDepth 65536 in
/-- The printed body is the sequence of steps. -/
theorem body_eq :
    cc0_body (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3 cc0_scratch4 cc0_scratch5 cc0_scratch6 cc0_scratch7
      = bodyProg := rfl

end Cert.KernelIdeal.Ring

end
-- ==== Proof.KernelIdeal.Protocol.lean ====
/-
# The protocol of the two rings

Two streams run round the ring of eight devices at once: direction `false` moves the top half of every block of `x` to the
next device at each hop, direction `true` the bottom half to the previous one. Each stream has, on every device, two
landing slots used in turn, a send and a receive semaphore for each slot, and a credit semaphore by which the device
downstream says that the slot the next hop lands in is free. The runtime's barrier semaphore opens the exchange.

This module states who pays which semaphore in which round and what comes with each payment, what every device still owes
at each point, and the order of the waits.
-/
module

public import proofs.«01_k».proof.Proof.KernelIdeal.Steps
public import Idealize.ShloMosaic.Lib.Pipeline.Launch
public import Idealize.ShloMosaic.Lib.Pipeline.Kit
public import Idealize.ShloMosaic.Lib.Tactic
public import Idealize.ShloMosaic.Lib.MemrefSat

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

/-- The device a stream moves to from `c`. -/
def nb (d : Bool) (c : Dev nD) : Dev nD :=
  match d with
  | false => ⟨(c.val + 1) % 8, Nat.mod_lt _ (by decide)⟩
  | true => ⟨(c.val + 7) % 8, Nat.mod_lt _ (by decide)⟩

/-- The device a stream comes from. -/
def up (d : Bool) (c : Dev nD) : Dev nD := nb (!d) c

/-- Downstream undoes upstream, -/
theorem nb_up (d : Bool) (c : Dev nD) : nb d (up d c) = c := by revert d c; decide
/-- and the other way round. -/
theorem up_nb (d : Bool) (c : Dev nD) : up d (nb d c) = c := by revert d c; decide

/-- Every second hop uses the same slot, -/
theorem sl_succ_succ (j : ℕ) : sl (j + 2) = sl j := Fin.ext (Nat.add_mod_right j 2)
/-- one round later. -/
theorem half_succ_succ (j : ℕ) : (j + 2) / 2 = j / 2 + 1 := Nat.add_div_right j (by decide)
/-- A hop is given by its round and its slot. -/
theorem hop_split (j : ℕ) : 2 * (j / 2) + (sl j).val = j := Nat.div_add_mod j 2

/-! ## Cells -/

/-- The semaphore a device's outgoing hop pays at home, -/
abbrev sendCell (d : Bool) (c : Dev nD) (s : Fin 2) : GSem nD τ sig := ((c : Thread nD τ), .dma (sendS d s))
/-- the one an incoming hop pays, -/
abbrev recvCell (d : Bool) (c : Dev nD) (s : Fin 2) : GSem nD τ sig := ((c : Thread nD τ), .dma (recvS d s))
/-- the one a grant pays, -/
abbrev credCell (d : Bool) (c : Dev nD) : GSem nD τ sig := ((c : Thread nD τ), .reg (credS d))
/-- and the barrier's. -/
abbrev barCell (c : Dev nD) : GSem nD τ sig := ((c : Thread nD τ), .reg barS)

/-- What the transfer of one block adds to a semaphore. -/
abbrev N : ℕ := (slotM false 0).view.dmaCredit
/-- It is positive. -/
theorem N_pos : 0 < N := View.dmaCredit_pos _ (by decide)

/-! ## The resources -/

/-- The ghost state of the exchange, -/
abbrev UB : Type := URounds (GSem nD τ sig) Bool
/-- beside the launch's. -/
abbrev UU : Type := UR sig nD τ × UB

local notation "𝕄" => MT nD τ sig ℕ (Elt F) ℕ UU ℕ

/-- The pipeline's share of the ghost state, and the rings'. -/
abbrev EP : Emb (UR sig nD τ) (MT nD τ sig ℕ (Elt F) ℕ UU ℕ) := embL
/-- Where it lies in the whole state. -/
abbrev ER : Emb UB (MT nD τ sig ℕ (Elt F) ℕ UU ℕ) := embR

variable (X : Dev nD → Vec F S512x4096 .f32)

/-! ## Contents -/

/-- The rows of a block of `x` a direction carries. -/
def half (d : Bool) (x : Vec F S512x4096 .f32) : Vec F S256x4096 .f32 := (halfM d).view.read (Elt F) x

/-- What device `c` sends at hop `j`: the half block of the device `j` places upstream. -/
def cont (d : Bool) (c : Dev nD) (j : ℕ) : Vec F S256x4096 .f32 := half d (X ((up d)^[j] c))

/-- What comes next is what the device upstream sent. -/
theorem cont_succ (d : Bool) (c : Dev nD) (j : ℕ) : cont X d c (j + 1) = cont X d (up d c) j := rfl

/-! ## Payloads -/

/-- The slot of the device downstream that hop `j` of `c` lands in, free, the device being ready to receive the hop. -/
def grant (d : Bool) (c : Dev nD) (j : ℕ) : sProp 𝕄 :=
  iprop((∃ Y : Vec F S256x4096 .f32, owns (nb d c : Thread nD τ) (slotM d (sl j)) fullShare Y) ∗ reached ER (recvCell d (nb d c) (sl j)) (j / 2))

/-- What completes with a send: the lent half share of its source. -/
def sendPay (d : Bool) (c : Dev nD) (j : ℕ) : sProp 𝕄 := owns (c : Thread nD τ) (srcM d j) fullShare.left (cont X d c j)

/-- What lands with hop `j`: the slot with the block of the device `j + 1` places upstream, the device upstream being ready
    for the credit of that hop. -/
def recvPay (d : Bool) (c : Dev nD) (j : ℕ) : sProp 𝕄 :=
  iprop(owns (c : Thread nD τ) (slotM d (sl j)) fullShare (cont X d c (j + 1)) ∗ reached ER (credCell d (up d c)) j)

/-! ## The schedule -/

/-- The duties of a semaphore in a round: the barrier's two at round 0; a credit semaphore's six rounds; and of the two
    semaphores of a kind the seven hops, in turn. -/
def dutiesS (sm : SemLoc sig) (r : ℕ) : Finset Bool :=
  match sm with
  | .reg s => if s.val = 2 then (if r = 0 then Finset.univ else ∅) else if r < 6 then {false} else ∅
  | .dma s => if 3 ≤ s.val ∧ 2 * r + (s.val + 1) % 2 < 7 then {false} else ∅

/-- The credit of a payment on a semaphore: a unit, or `n` for a transfer's. -/
def amountS (n : ℕ) (sm : SemLoc sig) : ℕ := match sm with | .reg _ => 1 | .dma _ => n

/-- A transfer's semaphore is paid a transfer's amount. -/
theorem amountS_dma (n : ℕ) (q : DmaSem sig) : amountS n (.dma q) = n := rfl

/-- What comes with duty `b` of round `r` of a semaphore of device `c`. -/
def payloadS (c : Dev nD) (sm : SemLoc sig) (r : ℕ) (b : Bool) : sProp 𝕄 :=
  match sm with
  | .reg s => if s.val = 2 then grant (F := F) b c 0 else grant (F := F) (decide (s.val = 1)) c (r + 1)
  | .dma s =>
    if ((s.val - 3) / 2) % 2 = 0 then sendPay X (decide (7 ≤ s.val)) c (2 * r + (s.val + 1) % 2)
    else recvPay X (decide (7 ≤ s.val)) c (2 * r + (s.val + 1) % 2)

/-- The schedule: which payments each semaphore takes in each round, how much each is, and what it hands over. -/
def ringRd : Rounds.Schedule (GSem nD τ sig) Bool 𝕄 where
  duties g r := if g.1.2 = .tc then dutiesS g.2 r else ∅
  unitless _ := False
  amount g _ _ := amountS N g.2
  payload g r b := payloadS X g.1.1 g.2 r b
  amount_pos g _ _ _ := by
    show 0 < amountS N g.2
    unfold amountS; split
    · exact Nat.one_pos
    · exact N_pos

/-- A grant can be kept in an invariant, -/
instance grant_storable (d : Bool) (c : Dev nD) (j : ℕ) : BI.Storable (upEmb : UEmb _ 𝕄) (grant (F := F) d c j) := by
  unfold grant; infer_instance
/-- a sent source too, -/
instance sendPay_storable (d : Bool) (c : Dev nD) (j : ℕ) : BI.Storable (upEmb : UEmb _ 𝕄) (sendPay X d c j) := by
  unfold sendPay; infer_instance
/-- and a landed slot, -/
instance recvPay_storable (d : Bool) (c : Dev nD) (j : ℕ) : BI.Storable (upEmb : UEmb _ 𝕄) (recvPay X d c j) := by
  unfold recvPay; infer_instance

/-- so every payload can. -/
instance ringRd_payload_storable (g : GSem nD τ sig) (r : ℕ) (b : Bool) :
    BI.Storable (upEmb : UEmb _ 𝕄) ((ringRd X).payload g r b) := by
  show BI.Storable upEmb (payloadS X g.1.1 g.2 r b)
  unfold payloadS
  (repeat' split) <;> infer_instance

section Tables
variable (c : Dev nD) (d : Bool) (s : Fin 2)

/-- The barrier takes one payment from each neighbour, -/
theorem duties_bar : (ringRd X).duties (barCell c) 0 = Finset.univ := rfl
/-- and none after. -/
theorem duties_bar_later (r : ℕ) (h : 1 ≤ r) : (ringRd X).duties (barCell c) r = ∅ := by
  show (if r = 0 then Finset.univ else ∅) = _
  exact if_neg (by omega)

/-- A credit semaphore takes one payment in each of six rounds, -/
theorem duties_cred_eq (r : ℕ) : (ringRd X).duties (credCell d c) r = if r < 6 then {false} else ∅ := by
  cases d <;> rfl
/-- one while a hop is to come, -/
theorem duties_cred (r : ℕ) (h : r < 6) : (ringRd X).duties (credCell d c) r = {false} := by
  rw [duties_cred_eq, if_pos h]
/-- and none after. -/
theorem duties_cred_later (r : ℕ) (h : 6 ≤ r) : (ringRd X).duties (credCell d c) r = ∅ := by
  rw [duties_cred_eq, if_neg (by omega)]

/-- A transfer's semaphore takes one payment in each round that has a hop. -/
theorem duties_dma (q : DmaSem sig) (r : ℕ) : (ringRd X).duties ((c : Thread nD τ), .dma q) r
    = if 3 ≤ q.val ∧ 2 * r + (q.val + 1) % 2 < 7 then {false} else ∅ := by
  dsimp only [ringRd, dutiesS]; rw [if_pos rfl]

/-- The number of a send semaphore, -/
theorem sendS_val : (sendS d s).val = 3 + 4 * d.toNat + s.val := rfl
/-- and of a receive semaphore. -/
theorem recvS_val : (recvS d s).val = 3 + 4 * d.toNat + (2 + s.val) := rfl

/-- A send semaphore's rounds, -/
theorem duties_send_eq (r : ℕ) : (ringRd X).duties (sendCell d c s) r = if 2 * r + s.val < 7 then {false} else ∅ := by
  rw [duties_dma, sendS_val]; congr 1; have := s.isLt; apply propext; constructor <;> intro h <;> omega
/-- a receive semaphore's rounds, -/
theorem duties_recv_eq (r : ℕ) : (ringRd X).duties (recvCell d c s) r = if 2 * r + s.val < 7 then {false} else ∅ := by
  rw [duties_dma, recvS_val]; congr 1; have := s.isLt; apply propext; constructor <;> intro h <;> omega

/-- by the hop: -/
theorem duties_send (j : ℕ) (h : j < 7) : (ringRd X).duties (sendCell d c (sl j)) (j / 2) = {false} := by
  rw [duties_send_eq, hop_split, if_pos h]
/-- one payment each, -/
theorem duties_recv (j : ℕ) (h : j < 7) : (ringRd X).duties (recvCell d c (sl j)) (j / 2) = {false} := by
  rw [duties_recv_eq, hop_split, if_pos h]
/-- and none after the last -/
theorem duties_send_later (r : ℕ) (h : 7 ≤ 2 * r + s.val) : (ringRd X).duties (sendCell d c s) r = ∅ := by
  rw [duties_send_eq, if_neg (by omega)]
/-- on either. -/
theorem duties_recv_later (r : ℕ) (h : 7 ≤ 2 * r + s.val) : (ringRd X).duties (recvCell d c s) r = ∅ := by
  rw [duties_recv_eq, if_neg (by omega)]

/-- A barrier signal is one, -/
theorem amount_bar (r : ℕ) (b : Bool) : (ringRd X).amount (barCell c) r b = 1 := rfl
/-- a grant is one, -/
theorem amount_cred (r : ℕ) (b : Bool) : (ringRd X).amount (credCell d c) r b = 1 := rfl
/-- a hop pays its amount at home -/
theorem amount_send (r : ℕ) (b : Bool) : (ringRd X).amount (sendCell d c s) r b = N := amountS_dma N (sendS d s)
/-- and where it lands. -/
theorem amount_recv (r : ℕ) (b : Bool) : (ringRd X).amount (recvCell d c s) r b = N := amountS_dma N (recvS d s)

/-- The barrier's round is two signals, -/
theorem expect_bar : (ringRd X).expect (barCell c) 0 = 2 := by
  unfold Schedule.expect Schedule.amountOf
  rw [duties_bar, Finset.sum_congr rfl fun b _ => amount_bar X c 0 b]; rfl
/-- a credit round one, -/
theorem expect_cred (r : ℕ) (h : r < 6) : (ringRd X).expect (credCell d c) r = 1 := by
  unfold Schedule.expect Schedule.amountOf
  rw [duties_cred X c d r h, Finset.sum_singleton, amount_cred]
/-- a send round one hop, -/
theorem expect_send (j : ℕ) (h : j < 7) : (ringRd X).expect (sendCell d c (sl j)) (j / 2) = N := by
  unfold Schedule.expect Schedule.amountOf
  rw [duties_send X c d j h, Finset.sum_singleton, amount_send]
/-- a receive round one hop. -/
theorem expect_recv (j : ℕ) (h : j < 7) : (ringRd X).expect (recvCell d c (sl j)) (j / 2) = N := by
  unfold Schedule.expect Schedule.amountOf
  rw [duties_recv X c d j h, Finset.sum_singleton, amount_recv]

/-- A barrier signal grants the first hop, -/
theorem payload_bar (b : Bool) : (ringRd X).payload (barCell c) 0 b = grant b c 0 := rfl
/-- a credit the next hop. -/
theorem payload_cred (r : ℕ) (b : Bool) : (ringRd X).payload (credCell d c) r b = grant d c (r + 1) := by
  cases d <;> rfl
/-- What a transfer's semaphore hands over, by its number. -/
theorem payload_dma (q : DmaSem sig) (r : ℕ) (b : Bool) : (ringRd X).payload ((c : Thread nD τ), .dma q) r b
    = if ((q.val - 3) / 2) % 2 = 0 then sendPay X (decide (7 ≤ q.val)) c (2 * r + (q.val + 1) % 2)
      else recvPay X (decide (7 ≤ q.val)) c (2 * r + (q.val + 1) % 2) := by
  dsimp only [ringRd, payloadS]

/-- The direction, the kind and the slot, read off a semaphore's number. -/
theorem decode_send : decide (7 ≤ (sendS d s).val) = d ∧ ((sendS d s).val - 3) / 2 % 2 = 0 ∧ ((sendS d s).val + 1) % 2 = s.val := by
  revert d s; decide
/-- A receive semaphore's number gives its direction, kind and slot. -/
theorem decode_recv : decide (7 ≤ (recvS d s).val) = d ∧ ((recvS d s).val - 3) / 2 % 2 = 1 ∧ ((recvS d s).val + 1) % 2 = s.val := by
  revert d s; decide

/-- A send semaphore hands back half the source, -/
theorem payload_send (j : ℕ) (b : Bool) : (ringRd X).payload (sendCell d c (sl j)) (j / 2) b = sendPay X d c j := by
  obtain ⟨h1, h2, h3⟩ := decode_send d (sl j)
  rw [payload_dma, if_pos h2, h1, h3, hop_split]
/-- a receive semaphore the landed slot. -/
theorem payload_recv (j : ℕ) (b : Bool) : (ringRd X).payload (recvCell d c (sl j)) (j / 2) b = recvPay X d c j := by
  obtain ⟨h1, h2, h3⟩ := decode_recv d (sl j)
  rw [payload_dma, if_neg (by rw [h2]; decide), h1, h3, hop_split]

/-- What the barrier wait collects: both neighbours' first slots. -/
theorem rest_bar : bigSep ((ringRd X).duties (barCell c) 0 \ ∅) (fun b => (ringRd X).payload (barCell c) 0 b)
    = iprop(grant false c 0 ∗ grant true c 0) := by
  rw [Finset.sdiff_empty, duties_bar, bigSep_univ_eq_bigSepL [false, true] (by decide) (by decide), bigSepL_cons_cons, bigSepL_singleton,
    payload_bar, payload_bar]
  rfl
/-- What a credit wait collects: the slot of the next hop. -/
theorem rest_cred (j : ℕ) (h : j < 6) : bigSep ((ringRd X).duties (credCell d c) j \ ∅) (fun b => (ringRd X).payload (credCell d c) j b)
    = grant d c (j + 1) := by
  rw [Finset.sdiff_empty, duties_cred X c d j h, bigSep_singleton, payload_cred]
/-- What a wait for a send collects: the lent share of its source. -/
theorem rest_send (j : ℕ) (h : j < 7) : bigSep ((ringRd X).duties (sendCell d c (sl j)) (j / 2) \ ∅) (fun b => (ringRd X).payload (sendCell d c (sl j)) (j / 2) b)
    = sendPay X d c j := by
  rw [Finset.sdiff_empty, duties_send X c d j h, bigSep_singleton, payload_send]
/-- What a wait for a landing collects: the slot, full. -/
theorem rest_recv (j : ℕ) (h : j < 7) : bigSep ((ringRd X).duties (recvCell d c (sl j)) (j / 2) \ ∅) (fun b => (ringRd X).payload (recvCell d c (sl j)) (j / 2) b)
    = recvPay X d c j := by
  rw [Finset.sdiff_empty, duties_recv X c d j h, bigSep_singleton, payload_recv]

end Tables

/-! ## Levels, and what a device owes -/

/-- Every semaphore of a TensorCore has seven rounds' levels. -/
def L (g : GSem nD τ sig) : Finset ℕ := if g.1.2 = .tc then Finset.range 7 else ∅

/-- Staging and send semaphores below everything, then the barrier, then for each hop in turn its landings and, above them,
    the credits that answer them. -/
def lv (g : GSem nD τ sig) (i : ℕ) : ℕ :=
  match g.2 with
  | .reg s => if s.val = 2 then 1 else 3 + 2 * i
  | .dma s => if 3 ≤ s.val ∧ ((s.val - 3) / 2) % 2 = 1 then 2 + 2 * i else 0

/-- Other threads have none. -/
theorem L_of_ne (g : GSem nD τ sig) (h : g.1.2 ≠ .tc) : L g = ∅ := if_neg h
/-- The levels of a TensorCore's semaphore. -/
theorem L_tc (c : Dev nD) (sm : SemLoc sig) : L ((c : Thread nD τ), sm) = Finset.range 7 := if_pos rfl

/-- The barrier is at level one, -/
theorem lv_bar (c : Dev nD) (i : ℕ) : lv (barCell c) i = 1 := rfl
/-- credits at the odd levels from three, -/
theorem lv_cred (d : Bool) (c : Dev nD) (i : ℕ) : lv (credCell d c) i = 3 + 2 * i := by cases d <;> rfl
/-- the waits at home at zero, -/
theorem lv_send (d : Bool) (c : Dev nD) (s : Fin 2) (i : ℕ) : lv (sendCell d c s) i = 0 := by cases d <;> fin_cases s <;> rfl
/-- and landings at the even levels from two. -/
theorem lv_recv (d : Bool) (c : Dev nD) (s : Fin 2) (i : ℕ) : lv (recvCell d c s) i = 2 + 2 * i := by cases d <;> fin_cases s <;> rfl

/-- Everything owed is a TensorCore's, of a hop, and above level `n`. -/
def Above (n : ℕ) (O : CellTallies nD τ sig ℕ) : Prop := ∀ g i, 0 < O g i → i ∈ L g ∧ n < lv g i

/-- Nothing owed is above any level. -/
theorem above_zero (n : ℕ) : Above n 0 := fun g i h => absurd h (Nat.lt_irrefl 0)
/-- A sum is above a level both parts are above. -/
theorem above_add {n : ℕ} {A B : CellTallies nD τ sig ℕ} (hA : Above n A) (hB : Above n B) : Above n (A + B) := fun g i h => by
  rw [Pi.add_apply, Finsupp.add_apply] at h
  rcases Nat.eq_zero_or_pos (A g i) with h0 | h0
  · exact hB g i (by omega)
  · exact hA g i h0
/-- One payment is above a level below its own. -/
theorem above_tallyAt {n : ℕ} {c : Dev nD} {sm : SemLoc sig} {j k : ℕ} (hj : j < 7) (h : n < lv ((c : Thread nD τ), sm) j) :
    Above n (tallyAt ((c : Thread nD τ), sm) j k) := fun g i hp => by
  obtain ⟨rfl, rfl⟩ := Pipeline.tallyAt_pos hp
  exact ⟨by rw [L_tc]; exact Finset.mem_range.mpr hj, h⟩
/-- The same for a sum over hops. -/
theorem above_sum {n : ℕ} {s : Finset ℕ} {T : ℕ → CellTallies nD τ sig ℕ} (h : ∀ j ∈ s, Above n (T j)) : Above n (∑ j ∈ s, T j) :=
  Finset.sum_induction T (Above n) (fun _ _ => above_add) (above_zero n) h

/-- A device may wait at a level below everything it owes. -/
theorem mayWait (c : Dev nD) (sm : SemLoc sig) (i : ℕ) (hi : i < 7) (O : CellTallies nD τ sig ℕ) (h : Above (lv ((c : Thread nD τ), sm) i) O) :
    (levAts L lv : sProp 𝕄) ⊢ MayWait (c : Thread nD τ) sm i O :=
  MayOwe.of_cut (L := L) (lev := lv) (lv ((c : Thread nD τ), sm) i)
    (fun p hp => by rw [Finset.mem_singleton.mp hp, L_tc]; exact Finset.mem_range.mpr hi)
    (fun g u hg => (h g u hg).1)
    (fun p hp => by rw [Finset.mem_singleton.mp hp])
    (fun g u hg => (h g u hg).2)

/-- Hop `h` first among the hops from `h` on. -/
theorem ico_step {h n : ℕ} (hh : h < n) : Finset.Ico h n = insert h (Finset.Ico (h + 1) n) := by
  ext i; rw [Finset.mem_insert, Finset.mem_Ico, Finset.mem_Ico]; omega
/-- An interval does not have the number before it. -/
theorem not_mem_ico (h n : ℕ) : h ∉ Finset.Ico (h + 1) n := by rw [Finset.mem_Ico]; omega

/-- The credit device `c` owes for the landings of hops `h` and later. -/
def owedRecv (d : Bool) (c : Dev nD) (h : ℕ) : CellTallies nD τ sig ℕ := ∑ j ∈ Finset.Ico h 7, tallyAt (recvCell d (nb d c) (sl j)) j N
/-- The credits of hops `h` and later device `c` owes upstream. -/
def owedCred (d : Bool) (c : Dev nD) (h : ℕ) : CellTallies nD τ sig ℕ := ∑ j ∈ Finset.Ico h 6, tallyAt (credCell d (up d c)) j 1

/-- The next hop taken out of what is owed, -/
theorem owedRecv_step (d : Bool) (c : Dev nD) {h : ℕ} (hh : h < 7) :
    owedRecv d c h = owedRecv d c (h + 1) + tallyAt (recvCell d (nb d c) (sl h)) h N := by
  unfold owedRecv; rw [ico_step hh, Finset.sum_insert (not_mem_ico h _), add_comm]
/-- the next grant taken out, -/
theorem owedCred_step (d : Bool) (c : Dev nD) {h : ℕ} (hh : h < 6) :
    owedCred d c h = owedCred d c (h + 1) + tallyAt (credCell d (up d c)) h 1 := by
  unfold owedCred; rw [ico_step hh, Finset.sum_insert (not_mem_ico h _), add_comm]
/-- nothing left of the hops after the last, -/
theorem owedRecv_end (d : Bool) (c : Dev nD) : owedRecv d c 7 = 0 := by unfold owedRecv; rw [Finset.Ico_self, Finset.sum_empty]
/-- and nothing left of the grants. -/
theorem owedCred_end (d : Bool) (c : Dev nD) : owedCred d c 6 = 0 := by unfold owedCred; rw [Finset.Ico_self, Finset.sum_empty]

/-- The hops owed are above a level below the next, -/
theorem above_owedRecv {n h : ℕ} (d : Bool) (c : Dev nD) (hn : n < 2 + 2 * h) : Above n (owedRecv d c h) :=
  above_sum fun j hj => by
    obtain ⟨h1, h2⟩ := Finset.mem_Ico.mp hj
    exact above_tallyAt h2 (by rw [lv_recv]; omega)
/-- and the grants. -/
theorem above_owedCred {n h : ℕ} (d : Bool) (c : Dev nD) (hn : n < 3 + 2 * h) : Above n (owedCred d c h) :=
  above_sum fun j hj => by
    obtain ⟨h1, h2⟩ := Finset.mem_Ico.mp hj
    exact above_tallyAt (by omega) (by rw [lv_cred]; omega)

/-- What device `c` owes once it has started the hops before `h` and given the credits before `k` of a direction. -/
def owedDir (d : Bool) (c : Dev nD) (h k : ℕ) : CellTallies nD τ sig ℕ := owedRecv d c h + owedCred d c k

/-- What one direction owes is above a level below both. -/
theorem above_owedDir {n h k : ℕ} (d : Bool) (c : Dev nD) (hr : n < 2 + 2 * h) (hc : n < 3 + 2 * k) : Above n (owedDir d c h k) :=
  above_add (above_owedRecv d c hr) (above_owedCred d c hc)

/-- The next hop taken out of a direction's debts, -/
theorem owedDir_send (d : Bool) (c : Dev nD) {h : ℕ} (k : ℕ) (hh : h < 7) :
    owedDir d c h k = owedDir d c (h + 1) k + tallyAt (recvCell d (nb d c) (sl h)) h N := by
  unfold owedDir; rw [owedRecv_step d c hh, add_right_comm]
/-- the next grant, -/
theorem owedDir_cred (d : Bool) (c : Dev nD) (h : ℕ) {k : ℕ} (hk : k < 6) :
    owedDir d c h k = owedDir d c h (k + 1) + tallyAt (credCell d (up d c)) k 1 := by
  unfold owedDir; rw [owedCred_step d c hk, add_assoc]
/-- and in the end nothing. -/
theorem owedDir_end (d : Bool) (c : Dev nD) : owedDir d c 7 6 = 0 := by
  unfold owedDir; rw [owedRecv_end, owedCred_end, add_zero]

/-- What device `c` owes once its barrier signals are out: both directions in full. -/
def O₁ (c : Dev nD) : CellTallies nD τ sig ℕ := owedDir false c 0 0 + owedDir true c 0 0
/-- What device `c` owes at launch: that, and one unit on each neighbour's barrier. -/
def O₀ (c : Dev nD) : CellTallies nD τ sig ℕ := O₁ c + tallyAt (barCell (nb false c)) 0 1 + tallyAt (barCell (nb true c)) 0 1

/-- After the barrier's signals everything owed is above the barrier's level, -/
theorem above_O₁ (c : Dev nD) : Above 1 (O₁ c) :=
  above_add (above_owedDir _ _ (by omega) (by omega)) (above_owedDir _ _ (by omega) (by omega))
/-- and at launch everything is above zero. -/
theorem above_O₀ (c : Dev nD) : Above 0 (O₀ c) :=
  above_add (above_add (above_add (above_owedDir _ _ (by omega) (by omega)) (above_owedDir _ _ (by omega) (by omega)))
    (above_tallyAt (by omega) (by rw [lv_bar]; decide))) (above_tallyAt (by omega) (by rw [lv_bar]; decide))

end Cert.KernelIdeal.Ring

end
-- ==== Proof.KernelIdeal.Moves.lean ====
/-
# The communication steps

What each step of the exchange does to a device's resources, one lemma per step, for both directions and every hop.
-/
module

public import proofs.«01_k».proof.Proof.KernelIdeal.Protocol

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S512x4096 .f32)

/-! ## What a transfer credits -/

/-- Every slot's transfer adds the same credit. -/
theorem slot_credit (d : Bool) (s : Fin 2) : (slotM d s).view.dmaCredit = N := by
  cases d <;> rfl
/-- So does a half block's. -/
theorem half_credit (d : Bool) : (halfM d).view.dmaCredit = N := by
  cases d <;> rfl
/-- So does every hop's source. -/
theorem src_credit (d : Bool) (j : ℕ) : (srcM d j).view.dmaCredit = N :=
  match j with
  | 0 => half_credit d
  | j + 1 => slot_credit d _

/-! ## Resources by hop -/

/-- The body's rules run with no loop variants. -/
abbrev 𝒱₀ : Variants := Variants.none

/-- What a device still owes, having waited on some cells. -/
def owesE (c : Dev nD) (O : CellTallies nD τ sig ℕ) : sProp 𝕄 := iprop(∃ W, owes (c : Thread nD τ) O W)

/-- The device's place on the two semaphores of hop `j`'s slot: before hop `j`'s waits. -/
def posn (d : Bool) (c : Dev nD) (j : ℕ) : sProp 𝕄 :=
  iprop(atPos ER (sendCell d c (sl j)) (j / 2) ∅ 0 ∗ atPos ER (recvCell d c (sl j)) (j / 2) ∅ 0)

/-- Both semaphores of hop `j`'s slot have come to hop `j`'s round. -/
def marks (d : Bool) (c : Dev nD) (j : ℕ) : sProp 𝕄 :=
  iprop(reached ER (sendCell d c (sl j)) (j / 2) ∗ reached ER (recvCell d c (sl j)) (j / 2))

/-- Reached rounds stay reached. -/
instance marks_persistent (d : Bool) (c : Dev nD) (j : ℕ) : BI.Persistent (marks (F := F) d c j) := by
  unfold marks; infer_instance

variable (c : Dev nD) (d : Bool) (j : ℕ)

/-! ## Waiting for a hop -/

/-- The waits of hop `j`: the lent share of the source comes back, and the block of the device `j + 1` places upstream is in
    the slot. -/
theorem wp_waitStep (κ₁ κ₂ : ℕ) (hj : j < 7) (O : CellTallies nD τ sig ℕ) (hO : Above (2 + 2 * j) O) (Q : PUnit → sProp 𝕄) :
    iprop(cellInv ER (ringRd X) κ₁ (sendCell d c (sl j)) ∗ cellInv ER (ringRd X) κ₂ (recvCell d c (sl j)) ∗ levAts L lv
        ∗ posn d c j ∗ cred (tallyAt (sendCell d c (sl j)) j N) ∗ cred (tallyAt (recvCell d c (sl j)) j N)
        ∗ owns (c : Thread nD τ) (srcM d j) fullShare.right (cont X d c j) ∗ owesE c O)
      ⊢ iprop(((posn d c (j + 2) ∗ marks d c (j + 2) ∗ owns (c : Thread nD τ) (srcM d j) fullShare (cont X d c j)
            ∗ owns (c : Thread nD τ) (slotM d (sl j)) fullShare (cont X d c (j + 1)) ∗ reached ER (credCell d (up d c)) j ∗ owesE c O)
            -∗ Q ⟨⟩)
          -∗ wp frame (wpE (defs₀ (F := F)) 𝒱₀ (c : Thread nD τ) none) Set.univ (waitStep d j) Q) := by
  unfold waitStep posn marks owesE
  rw [sl_succ_succ, half_succ_succ]
  simp only [Prog.lift, Prog.bind_op, Prog.bind_ret]
  iintro ⟨#HI1, #HI2, #Hlev, ⟨HaS, HaR⟩, HcS, HcR, Hsrc, ⟨%W, HO⟩⟩ Hk
  iapply (Rounds.wp_wait_rest_token 𝒱₀ ER (ringRd X) (c : Thread nD τ) none (κ := κ₁)
      (wpE_waitDma2_eq 𝒱₀ (c : Thread nD τ) none Set.univ) (Set.mem_univ _) j (O := O) (W := W) (R := j / 2) (m := 0) (T := ∅)
      ((Nat.zero_add _).trans ((src_credit d j).trans (expect_send X c d j hj).symm))) $$ [HcS HO HaS]
  · isplitr; · iexact HI1
    isplitl [HcS]; · rw [src_credit d j]; iexact HcS
    isplitl [HO]; · iexact HO
    isplitr
    · iapply (mayWait c _ j hj O (fun g i h => ⟨(hO g i h).1, by have := (hO g i h).2; rw [lv_send]; omega⟩)); iexact Hlev
    iexact HaS
  iintro ⟨HO, HaS, #HrS, Hpay⟩
  ihave Hl := (Entails.of_eq (rest_send X c d j hj)) $$ Hpay
  iapply (Rounds.wp_wait_rest_token 𝒱₀ ER (ringRd X) (c : Thread nD τ) none (κ := κ₂)
      (wpE_waitDma2_eq 𝒱₀ (c : Thread nD τ) none Set.univ) (Set.mem_univ _) j (O := O)
      (W := insert (SemLoc.dma (sendS d (sl j)), j) W) (R := j / 2) (m := 0) (T := ∅)
      ((Nat.zero_add _).trans ((slot_credit d (sl j)).trans (expect_recv X c d j hj).symm))) $$ [HcR HO HaR]
  · isplitr; · iexact HI2
    isplitl [HcR]; · rw [slot_credit d (sl j)]; iexact HcR
    isplitl [HO]; · iexact HO
    isplitr
    · iapply (mayWait c _ j hj O (fun g i h => ⟨(hO g i h).1, by have := (hO g i h).2; rw [lv_recv]; omega⟩)); iexact Hlev
    iexact HaR
  iintro ⟨HO, HaR, #HrR, Hpay⟩
  ihave Hr := (Entails.of_eq (rest_recv X c d j hj)) $$ Hpay
  unfold recvPay sendPay
  icases Hr with ⟨Hslot, #Hup⟩
  rw [wp_ret]; imodintro
  iapply Hk
  isplitl [HaS HaR]; · isplitl [HaS] <;> iassumption
  isplitr; · isplitr <;> iassumption
  isplitl [Hl Hsrc]
  · iapply (owns_halves (c : Thread nD τ) (srcM d j) fullShare (cont X d c j)).2
    isplitl [Hl] <;> iassumption
  isplitl [Hslot]; · iexact Hslot
  isplitr; · iexact Hup
  iexists _; iexact HO

/-! ## Giving and taking credit -/

/-- The credit of hop `j`, to the device upstream: it hands over the slot of hop `j + 1`. -/
theorem wp_creditStep (κ : ℕ) (hj : j < 6) (n : Dev nD) (hn : n = up d c) (O O' : CellTallies nD τ sig ℕ)
    (hO : O' = O + tallyAt (credCell d (up d c)) j 1) (Q : PUnit → sProp 𝕄) :
    iprop(cellInv ER (ringRd X) κ (credCell d (up d c)) ∗ owesE c O' ∗ dutyTok ER (credCell d (up d c)) j false
        ∗ reached ER (credCell d (up d c)) j ∗ (∃ Y : Vec F S256x4096 .f32, owns (c : Thread nD τ) (slotM d (sl (j + 1))) fullShare Y)
        ∗ reached ER (recvCell d c (sl (j + 1))) ((j + 1) / 2))
      ⊢ iprop((owesE c O -∗ Q ⟨⟩)
          -∗ wp frame (wpE (defs₀ (F := F)) 𝒱₀ (c : Thread nD τ) none) Set.univ (creditStep (F := F) d n) Q) := by
  subst hn
  unfold creditStep owesE semSignalWord
  iintro ⟨#HI, ⟨%W, HO⟩, Ht, #Hr, HY, #Hr'⟩ Hk
  iapply (Rounds.wp_signal 𝒱₀ ER (ringRd X) (c : Thread nD τ) none (dst := (up d c : Thread nD τ)) (κ := κ) (r := j)
      (d := false) (by rw [duties_cred X _ _ _ hj]; exact Finset.mem_singleton_self _) ((amount_cred X _ d j false).trans (by decide)) j O hO)
    $$ [HO Ht HY]
  · isplitr; · iexact HI
    isplitl [HO]; · iexact HO
    isplitl [Ht]; · iexact Ht
    isplitl [HY]
    · rw [payload_cred]; unfold grant; rw [nb_up]
      isplitl [HY]; · iexact HY
      iexact Hr'
    iexact Hr
  iintro HO
  rw [wp_ret]; imodintro
  iapply Hk
  iexists W; iexact HO

/-- The wait for the credit of hop `j`: the slot downstream of hop `j + 1`. -/
theorem wp_awaitStep (κ : ℕ) (hj : j < 6) (O : CellTallies nD τ sig ℕ) (hO : Above (3 + 2 * j) O) (Q : PUnit → sProp 𝕄) :
    iprop(cellInv ER (ringRd X) κ (credCell d c) ∗ levAts L lv ∗ owesE c O ∗ atPos ER (credCell d c) j ∅ 0
        ∗ cred (tallyAt (credCell d c) j 1))
      ⊢ iprop(((owesE c O ∗ atPos ER (credCell d c) (j + 1) ∅ 0 ∗ reached ER (credCell d c) (j + 1) ∗ grant (F := F) d c (j + 1)) -∗ Q ⟨⟩)
          -∗ wp frame (wpE (defs₀ (F := F)) 𝒱₀ (c : Thread nD τ) none) Set.univ (awaitStep (F := F) d) Q) := by
  unfold awaitStep owesE semWaitWord
  iintro ⟨#HI, #Hlev, ⟨%W, HO⟩, Ha, Hc⟩ Hk
  iapply (Rounds.wp_wait_rest_token 𝒱₀ ER (ringRd X) (c : Thread nD τ) none (κ := κ)
      (wpE_semWait_eq 𝒱₀ (c : Thread nD τ) none Set.univ) (Set.mem_univ _) j (O := O) (W := W) (R := j) (m := 0) (T := ∅)
      (by rw [expect_cred X c d j hj]; decide)) $$ [Hc HO Ha]
  · isplitr; · iexact HI
    isplitl [Hc]; · iexact Hc
    isplitl [HO]; · iexact HO
    isplitr; · iapply (mayWait c _ j (by omega) O (by rw [lv_cred]; exact hO)); iexact Hlev
    iexact Ha
  iintro ⟨HO, Ha, Hr, Hpay⟩
  ihave Hg := (Entails.of_eq (rest_cred X c d j hj)) $$ Hpay
  rw [wp_ret]; imodintro
  iapply Hk
  isplitl [HO]; · iexists _; iexact HO
  isplitl [Ha]; · iexact Ha
  isplitl [Hr] <;> iassumption

/-! ## Sending -/

/-- What lands with a send, made from the slot rewritten with what the source holds. -/
theorem landed (f : Buf (Elt F) ((srcM d j).view.loc (c : Thread nD τ))) (g : Buf (Elt F) ((slotM d (sl j)).view.loc (nb d c : Thread nD τ)))
    (hf : (srcM d j).view.read (Elt F) f = cont X d c j) :
    iprop(((slotM d (sl j)).view.loc (nb d c : Thread nD τ) ↦[(slotM d (sl j)).view.set]{fullShare}
        ((slotM d (sl j)).view.write (Elt F) g ((srcM d j).view.read (Elt F) f) Finset.univ)) ∗ reached ER (credCell d c) j)
      ⊢ (ringRd X).payload (recvCell d (nb d c) (sl j)) (j / 2) false := by
  rw [payload_recv]; unfold recvPay owns
  rw [up_nb, cont_succ, up_nb]
  iintro ⟨H, Hr⟩
  isplitl [H]
  · iexists ((slotM d (sl j)).view.write (Elt F) g ((srcM d j).view.read (Elt F) f) Finset.univ)
    isplitr
    · ipureintro; exact (View.read_write_univ _ _).trans hf
    iexact H
  iexact Hr

/-- Hop `j`'s send: the left half of the source is lent to it, the slot downstream given up. -/
theorem wp_sendStep (κ₁ κ₂ : ℕ) (hj : j < 7) (n : Dev nD) (hn : n = nb d c) (O O' : CellTallies nD τ sig ℕ)
    (hO : O' = O + tallyAt (recvCell d (nb d c) (sl j)) j N) (Q : PUnit → sProp 𝕄) :
    iprop(cellInv ER (ringRd X) κ₁ (sendCell d c (sl j)) ∗ cellInv ER (ringRd X) κ₂ (recvCell d (nb d c) (sl j)) ∗ owesE c O'
        ∗ owns (c : Thread nD τ) (srcM d j) fullShare (cont X d c j) ∗ grant (F := F) d c j
        ∗ dutyTok ER (sendCell d c (sl j)) (j / 2) false ∗ reached ER (sendCell d c (sl j)) (j / 2)
        ∗ dutyTok ER (recvCell d (nb d c) (sl j)) (j / 2) false ∗ reached ER (credCell d c) j)
      ⊢ iprop(((owesE c O ∗ cred (tallyAt (sendCell d c (sl j)) j N) ∗ owns (c : Thread nD τ) (srcM d j) fullShare.right (cont X d c j)) -∗ Q ⟨⟩)
          -∗ wp frame (wpE (defs₀ (F := F)) 𝒱₀ (c : Thread nD τ) none) Set.univ (sendStep (F := F) d j n) Q) := by
  subst hn
  unfold sendStep owesE grant
  simp only [Prog.lift]
  iintro ⟨#HI1, #HI2, ⟨%W, HO⟩, Hsrc, ⟨⟨%Y, Hslot⟩, #HrV⟩, HtS, #HrS, HtV, #Hcr⟩ Hk
  ihave H2 := (owns_halves (c : Thread nD τ) (srcM d j) fullShare (cont X d c j)).1 $$ Hsrc
  icases H2 with ⟨Hl, Hr⟩
  unfold owns
  icases Hl with ⟨%f, %hf, Hl⟩
  icases Hslot with ⟨%g, -, Hslot⟩
  iapply (Rounds.wp_send_pointsTo_with 𝒱₀ ER (ringRd X) (c : Thread nD τ) none (κ₁ := κ₁) (κ₂ := κ₂)
      (r₁ := j / 2) (r₂ := j / 2) (d₁ := false) (d₂ := false) (c' := (nb d c : Thread nD τ)) (src := srcM d j) (dst := slotM d (sl j)) (sS := .dma (sendS d (sl j))) (sem := .dma (recvS d (sl j))) (fs := f) (fd := g) (q := fullShare.left) (F := reached ER (credCell d c) j)
      (by rw [duties_send X c d j hj]; exact Finset.mem_singleton_self _) (by rw [duties_recv X _ d j hj]; exact Finset.mem_singleton_self _)
      j j N (slot_credit d (sl j)) (amount_send X c d _ _ false) (amount_recv X (nb d c) d _ _ false) O hO (W := W)
      (by rw [payload_send]; unfold sendPay; rw [← hf]; exact owns_intro _ _ _ _)
      (landed X c d j f g hf)) $$ [Hl Hslot HO HtS HtV]
  · isplitr; · iexact HI1
    isplitr; · iexact HI2
    isplitl [Hl]; · iexact Hl
    isplitl [Hslot]
    · isplitl [Hslot]; · iexact Hslot
      iexact Hcr
    isplitl [HO]; · iexact HO
    isplitl [HtS]; · iexact HtS
    isplitr; · iexact HrS
    isplitl [HtV]; · iexact HtV
    iexact HrV
  iintro ⟨Hc, HO⟩
  rw [wp_ret]; imodintro
  iapply Hk
  isplitl [HO]; · iexists W; iexact HO
  isplitl [Hc]; · iexact Hc
  iexact Hr

end Cert.KernelIdeal.Ring

end
-- ==== Proof.KernelIdeal.Parts.lean ====
/-
# The buffers in parts

A block of `x` is its two halves, a landing buffer its two slots, and what a load of a slot reads.
-/
module

public import proofs.«01_k».proof.Proof.KernelIdeal.Moves

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## A block of `x` and its halves -/

/-- The two halves share no row, -/
theorem half_disjoint (d d' : Bool) (h : d ≠ d') : Disjoint (halfR d).set (halfR d').set := by
  rw [Finset.disjoint_left]
  intro i hi hi'
  have h1 := Rect.mem_set_unit.mp hi (0 : Fin 2)
  have h2 := Rect.mem_set_unit.mp hi' (0 : Fin 2)
  have h3 : (halfOff d : ℕ) ≤ (i (0 : Fin 2)).val ∧ (i (0 : Fin 2)).val < halfOff d + 256 := h1
  have h4 : (halfOff d' : ℕ) ≤ (i (0 : Fin 2)).val ∧ (i (0 : Fin 2)).val < halfOff d' + 256 := h2
  cases d <;> cases d' <;> simp only [halfOff] at h3 h4 <;> first | exact h rfl | omega

/-- and have every row. -/
theorem half_cover : (Finset.univ : Finset Bool).biUnion (fun d => (halfR d).set) = Finset.univ := by
  ext i
  simp only [Finset.mem_biUnion, Finset.mem_univ, true_and, iff_true]
  have h0 : (i (0 : Fin 2)).val < 512 := (i (0 : Fin 2)).isLt
  have h1 : (i (1 : Fin 2)).val < 4096 := (i (1 : Fin 2)).isLt
  rcases Nat.lt_or_ge (i (0 : Fin 2)).val 256 with h | h
  · refine ⟨false, Rect.mem_set_unit.mpr (Fin.forall_fin_two.mpr ⟨?_, ?_⟩)⟩
    · show 0 ≤ (i (0 : Fin 2)).val ∧ (i (0 : Fin 2)).val < 0 + 256; omega
    · show 0 ≤ (i (1 : Fin 2)).val ∧ (i (1 : Fin 2)).val < 0 + 4096; omega
  · refine ⟨true, Rect.mem_set_unit.mpr (Fin.forall_fin_two.mpr ⟨?_, ?_⟩)⟩
    · show 256 ≤ (i (0 : Fin 2)).val ∧ (i (0 : Fin 2)).val < 256 + 256; omega
    · show 0 ≤ (i (1 : Fin 2)).val ∧ (i (1 : Fin 2)).val < 0 + 4096; omega

/-- Two conjuncts, written out. -/
theorem bigSep_bool (Φ : Bool → sProp 𝕄) : bigSep Finset.univ Φ = iprop(Φ false ∗ Φ true) := by
  rw [bigSep_univ_eq_bigSepL [false, true] (by decide) (by decide), bigSepL_cons_cons, bigSepL_singleton]
  rfl

/-- A share of the block is that share of its halves, -/
theorem x_split (c : Dev nD) (q : PosShare TreeShare) (x : Vec F S512x4096 .f32) :
    (owns (c : Thread nD τ) xM q x : sProp 𝕄)
      ⊢ iprop(owns (c : Thread nD τ) (halfM false) q (half false x) ∗ owns (c : Thread nD τ) (halfM true) q (half true x)) :=
  (owns_rects (c : Thread nD τ) xM q halfR (fun _ _ => rfl) half_disjoint half_cover x).trans (Entails.of_eq (bigSep_bool _))
/-- and back. -/
theorem x_join (c : Dev nD) (q : PosShare TreeShare) (x : Vec F S512x4096 .f32) :
    iprop(owns (c : Thread nD τ) (halfM false) q (half false x) ∗ owns (c : Thread nD τ) (halfM true) q (half true x))
      ⊢ (owns (c : Thread nD τ) xM q x : sProp 𝕄) :=
  (Entails.of_eq (bigSep_bool _).symm).trans (owns_of_rects (c : Thread nD τ) xM q halfR (fun _ _ => rfl) half_disjoint half_cover x)

/-! ## A landing buffer and its slots -/

/-- The elements of a slot. -/
theorem slot_set (d : Bool) (s : Fin 2) : (slotM d s).view.set = (bufM d).view.setOn (slotR s).set :=
  (View.set_reshape _ _).trans (View.set_slice _ _)

/-- The two slots of a buffer share no element, -/
theorem slot_disjoint (d : Bool) : Disjoint (slotM d 0).view.set (slotM d 1).view.set := by
  rw [slot_set, slot_set]
  refine (Finset.disjoint_map _).mpr (Finset.disjoint_left.mpr fun i hi hi' => ?_)
  have h1 := Rect.mem_set_unit.mp hi (0 : Fin 3)
  have h2 := Rect.mem_set_unit.mp hi' (0 : Fin 3)
  have h3 : (i (0 : Fin 3)).val < 0 + 1 := h1.2
  have h4 : 1 ≤ (i (0 : Fin 3)).val := h2.1
  omega

/-- and have every element. -/
theorem slot_cover (d : Bool) : (slotM d 0).view.set ∪ (slotM d 1).view.set = (bufM d).view.set := by
  refine (congrArg₂ (fun A B : Finset (bufM d).view.ty.Idx => A ∪ B) (slot_set d 0) (slot_set d 1)).trans ?_
  refine (Finset.map_union (f := (bufM d).view.emb) (slotR 0).set (slotR 1).set).symm.trans (congrArg (Finset.map (bufM d).view.emb) ?_)
  refine Finset.eq_univ_iff_forall.mpr fun i => Finset.mem_union.mpr ?_
  have h0 : (i (0 : Fin 3)).val < 2 := (i (0 : Fin 3)).isLt
  have h1 : (i (1 : Fin 3)).val < 256 := (i (1 : Fin 3)).isLt
  have h2 : (i (2 : Fin 3)).val < 4096 := (i (2 : Fin 3)).isLt
  have key : ∀ s : Fin 2, (i (0 : Fin 3)).val = s.val → i ∈ (slotR s).set := fun s hs =>
    Rect.mem_set_unit.mpr fun a => by
      match a with
      | ⟨0, _⟩ => show s.val ≤ (i (0 : Fin 3)).val ∧ (i (0 : Fin 3)).val < s.val + 1; omega
      | ⟨1, _⟩ => show 0 ≤ (i (1 : Fin 3)).val ∧ (i (1 : Fin 3)).val < 0 + 256; omega
      | ⟨2, _⟩ => show 0 ≤ (i (2 : Fin 3)).val ∧ (i (2 : Fin 3)).val < 0 + 4096; omega
  rcases Nat.lt_or_ge (i (0 : Fin 3)).val 1 with h | h
  · exact Or.inl (key 0 (by show _ = 0; omega))
  · exact Or.inr (key 1 (by show _ = 1; omega))

/-- The slot, owned at some contents. -/
def slotAny (d : Bool) (c : Dev nD) (s : Fin 2) : sProp 𝕄 := iprop(∃ Y : Vec F S256x4096 .f32, owns (c : Thread nD τ) (slotM d s) fullShare Y)

/-- A slot at known contents is a slot at some. -/
theorem slotAny_of (d : Bool) (c : Dev nD) (s : Fin 2) (Y : Vec F S256x4096 .f32) :
    owns (c : Thread nD τ) (slotM d s) fullShare Y ⊢ slotAny (F := F) d c s := by
  unfold slotAny; iintro H; iexists Y; iexact H

/-- A landing buffer is its two slots, -/
theorem buf_split (d : Bool) (c : Dev nD) (f : Buf (Elt F) ((bufM d).view.loc (c : Thread nD τ))) :
    ((bufM d).view.loc (c : Thread nD τ) ↦[(bufM d).view.set]{fullShare} f : sProp 𝕄) ⊢ iprop(slotAny (F := F) d c 0 ∗ slotAny (F := F) d c 1) := by
  rw [← slot_cover]
  refine (pointsTo_union (slot_disjoint d)).1.trans ?_
  iintro ⟨H0, H1⟩
  isplitl [H0]
  · iapply (slotAny_of d c 0 _); iapply (owns_intro (c : Thread nD τ) (slotM d 0) fullShare f); iexact H0
  · iapply (slotAny_of d c 1 _); iapply (owns_intro (c : Thread nD τ) (slotM d 1) fullShare f); iexact H1
/-- and back. -/
theorem buf_join (d : Bool) (c : Dev nD) :
    iprop(slotAny (F := F) d c 0 ∗ slotAny (F := F) d c 1)
      ⊢ (iprop(∃ f : Buf (Elt F) ((bufM d).view.loc (c : Thread nD τ)), (bufM d).view.loc (c : Thread nD τ) ↦[(bufM d).view.set]{fullShare} f) : sProp 𝕄) := by
  unfold slotAny owns
  iintro ⟨⟨%Y0, %f0, -, H0⟩, ⟨%Y1, %f1, -, H1⟩⟩
  iexists (slotM d 1).view.set.piecewise f1 f0
  rw [← slot_cover]
  iapply (pointsTo_join (ℓ := (bufM d).view.loc (c : Thread nD τ)) (slot_disjoint d))
  isplitl [H0]; · iexact H0
  iexact H1

/-- What a load of a slot reads, as a matrix. -/
theorem slot_read (d : Bool) (s : Fin 2) (f : (bufM d).view.ty.Contents (Elt F)) :
    shapeCast S256x4096 ((bufM d).view.readAt (Elt F) (slotR s).toLoadRect f) shapeCasts_S1x256x4096_S256x4096
      = (slotM d s).view.read (Elt F) f := rfl

end Cert.KernelIdeal.Ring

end
-- ==== Proof.KernelIdeal.Products.lean ====
/-
# The products

What the result of device `c` is to hold, row block by row block; each product step stores one row block of it.
-/
module

public import proofs.«01_k».proof.Proof.KernelIdeal.Parts
public import Idealize.ShloMosaic.Lib.WritesUnit
public import Idealize.ShloMosaic.Lib.ValueIdxCore

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.ValueIdx

/-! ## The result -/

/-- The product of a half block with a block of `w`. -/
def dotH (A : Vec F S256x4096 .f32) (w : Vec F S4096x1024 .f32) : FVec F S256x1024 .f32 :=
  matmul dot_S256x4096_S4096x1024_S256x1024_1_0_0_1_n_n none A (shapeCast S4096x1024 w shapeCasts_S4096x1024_S4096x1024)
    (constant S256x1024 .f32 0x00000000#32)

/-- The printed product of a landed half is this product. -/
theorem pay2_eq (v : Vec F S1x256x4096 .f32) (w : Vec F S4096x1024 .f32) :
    k0_pay2 v w = dotH (shapeCast S256x4096 v shapeCasts_S1x256x4096_S256x4096) w := rfl

/-- The direction that carries a row of the whole of `x`. -/
def dirOf (r : ℕ) : Bool := decide (256 ≤ r % 512)

/-- What device `c` is to compute from everyone's blocks of `x` and its own block `w`: its own rows by the product of the whole
    block, the others by the products of the halves. -/
def val (X : Dev nD → Vec F S512x4096 .f32) (w : Vec F S4096x1024 .f32) (c : Dev nD) : Vec F S4096x1024 .f32 := fun y =>
  have h0 : (y (0 : Fin 2)).val < 4096 := (y (0 : Fin 2)).isLt
  if (y (0 : Fin 2)).val / 512 = c.val then
    k0_pay1 (X c) w (ix2 ⟨(y (0 : Fin 2)).val % 512, Nat.mod_lt _ (by decide)⟩ ⟨(y (1 : Fin 2)).val, (y (1 : Fin 2)).isLt⟩)
  else
    dotH (half (dirOf (y (0 : Fin 2)).val) (X ⟨(y (0 : Fin 2)).val / 512, by show _ < 8; omega⟩)) w
      (ix2 ⟨(y (0 : Fin 2)).val % 256, Nat.mod_lt _ (by decide)⟩ ⟨(y (1 : Fin 2)).val, (y (1 : Fin 2)).isLt⟩)

/-- The rows of the block device `c` holds: its own after the prologue, and those of the two halves that each hop brings. -/
def covered (c : Dev nD) (h r : ℕ) : Prop :=
  r / 512 = c.val ∨ ∃ j < h, ∃ d : Bool, r / 512 = ((up d)^[j + 1] c).val ∧ dirOf r = d

/-- Whether a row is covered can be decided. -/
instance (c : Dev nD) (h r : ℕ) : Decidable (covered c h r) := by unfold covered; infer_instance

/-- The rows a half block's product fills. -/
def rowsOf (d : Bool) (s : Dev nD) (r : ℕ) : Prop := 512 * s.val + halfOff d ≤ r ∧ r < 512 * s.val + halfOff d + 256

/-- The rows of a half, by their block and their direction. -/
theorem rowsOf_iff (d : Bool) (s : Dev nD) (r : ℕ) : rowsOf d s r ↔ r / 512 = s.val ∧ dirOf r = d := by
  unfold rowsOf dirOf
  cases d <;> simp only [halfOff, decide_eq_false_iff_not, decide_eq_true_eq] <;> omega

/-- At first only the device's own rows are covered. -/
theorem covered_zero (c : Dev nD) (r : ℕ) (h : covered c 0 r) : 512 * c.val ≤ r ∧ r < 512 * c.val + 512 := by
  rcases h with h | ⟨j, hj, -⟩
  · omega
  · exact absurd hj (Nat.not_lt_zero j)

/-- A hop adds the rows of the two halves it brings. -/
theorem covered_succ (c : Dev nD) (h r : ℕ) (hc : covered c (h + 1) r) :
    (covered c h r ∨ rowsOf false ((up false)^[h + 1] c) r) ∨ rowsOf true ((up true)^[h + 1] c) r := by
  rcases hc with hc | ⟨j, hj, d, h1, h2⟩
  · exact Or.inl (Or.inl (Or.inl hc))
  rcases Nat.lt_succ_iff_lt_or_eq.mp hj with hj | rfl
  · exact Or.inl (Or.inl (Or.inr ⟨j, hj, d, h1, h2⟩))
  cases d
  · exact Or.inl (Or.inr ((rowsOf_iff _ _ _).mpr ⟨h1, h2⟩))
  · exact Or.inr ((rowsOf_iff _ _ _).mpr ⟨h1, h2⟩)

/-- Seven steps upstream reach every other device, -/
theorem ring_cover (d : Bool) (c s : Dev nD) : s = c ∨ ∃ j < 7, s = (up d)^[j + 1] c := by revert d c s; decide +kernel
/-- and never the device itself. -/
theorem ring_ne (d : Bool) (c : Dev nD) (j : Fin 7) : (up d)^[j.val + 1] c ≠ c := by revert d c j; decide +kernel

/-- After seven hops every row is there. -/
theorem covered_all (c : Dev nD) (r : ℕ) (hr : r < 4096) : covered c 7 r := by
  rcases ring_cover (dirOf r) c ⟨r / 512, by show _ < 8; omega⟩ with h | ⟨j, hj, h⟩
  · exact Or.inl (congrArg Fin.val h)
  · exact Or.inr ⟨j, hj, dirOf r, congrArg Fin.val h, rfl⟩

/-! ## Storing rows -/

/-- The staged result, agreeing with `V` on the rows `R`. -/
def outP (c : Dev nD) (V : Vec F S4096x1024 .f32) (R : ℕ → Prop) : sProp 𝕄 :=
  iprop(∃ f : Buf (Elt F) (oM.view.loc (c : Thread nD τ)),
    ⌜∀ y : S4096x1024.Idx, R (y (0 : Fin 2)).val → (f : Vec F S4096x1024 .f32) y = V y⌝ ∗ (oM.view.loc (c : Thread nD τ) ↦[oM.view.set]{fullShare} f))

/-- Fewer rows may be claimed. -/
theorem outP_mono (c : Dev nD) (V : Vec F S4096x1024 .f32) {R R' : ℕ → Prop} (h : ∀ r, R' r → R r) :
    outP c V R ⊢ outP c V R' := by
  unfold outP
  iintro ⟨%f, %hf, H⟩
  iexists f
  isplitr; · ipureintro; exact fun y hy => hf y (h _ hy)
  iexact H

/-- Rows `[o, o + n)` written with `V`'s: agreement extends to them. -/
theorem agree_write (f V : Vec F S4096x1024 .f32) (R : ℕ → Prop) (hf : ∀ y : S4096x1024.Idx, R (y (0 : Fin 2)).val → f y = V y)
    (off : Fin 2 → ℕ) (n o : ℕ) (inb : ∀ a, off a + (⟨2, ![n, 1024]⟩ : Shape).size a ≤ S4096x1024.size a) (hoff : off = ![o, 0])
    (w : Vec F (⟨2, ![n, 1024]⟩ : Shape) .f32)
    (hw : ∀ (y : S4096x1024.Idx) (x : (⟨2, ![n, 1024]⟩ : Shape).Idx), (y (0 : Fin 2)).val = o + (x (0 : Fin 2)).val →
      (y (1 : Fin 2)).val = (x (1 : Fin 2)).val → w x = V y)
    (y : S4096x1024.Idx) (hy : R (y (0 : Fin 2)).val ∨ (o ≤ (y (0 : Fin 2)).val ∧ (y (0 : Fin 2)).val < o + n)) :
    ((oM.access (Rect.unit (s := S4096x1024) off (⟨2, ![n, 1024]⟩ : Shape).size inb)).write (Elt F) f w Finset.univ : Vec F S4096x1024 .f32) y = V y := by
  by_cases h : o ≤ (y (0 : Fin 2)).val ∧ (y (0 : Fin 2)).val < o + n
  · have h1 : (y (1 : Fin 2)).val < 1024 := (y (1 : Fin 2)).isLt
    let x : (⟨2, ![n, 1024]⟩ : Shape).Idx := ix2 ⟨(y (0 : Fin 2)).val - o, by omega⟩ ⟨(y (1 : Fin 2)).val, h1⟩
    have hx0 : (y (0 : Fin 2)).val = o + (x (0 : Fin 2)).val := by show _ = o + ((y (0 : Fin 2)).val - o); omega
    exact (View.read_writes_cons_rows_of_mem (Val := Elt F) oM.view f inb w [] y x hoff hx0 rfl).trans (hw y x hx0 rfl)
  · refine (View.read_writes_cons_rows_of_not_mem (Val := Elt F) (W := n) oM.view f inb w [] y hoff rfl (by omega)).trans ?_
    exact hf y (hy.resolve_right h)

/-- The rows of a half block's product, of another device's block. -/
theorem val_half (X : Dev nD → Vec F S512x4096 .f32) (w : Vec F S4096x1024 .f32) (c s : Dev nD) (hs : s ≠ c) (d : Bool)
    (y : S4096x1024.Idx) (x : S256x1024.Idx) (h0 : (y (0 : Fin 2)).val = 512 * s.val + halfOff d + (x (0 : Fin 2)).val)
    (h1 : (y (1 : Fin 2)).val = (x (1 : Fin 2)).val) : dotH (half d (X s)) w x = val X w c y := by
  have hx : (x (0 : Fin 2)).val < 256 := (x (0 : Fin 2)).isLt
  have hrow : rowsOf d s (y (0 : Fin 2)).val := by unfold rowsOf; omega
  obtain ⟨hq, hd⟩ := (rowsOf_iff _ _ _).mp hrow
  have hm : (y (0 : Fin 2)).val % 256 = (x (0 : Fin 2)).val := by cases d <;> simp only [halfOff] at h0 <;> omega
  unfold val
  rw [if_neg (by rw [hq]; exact fun e => hs (Fin.ext e))]
  rw [hd]
  congr 1
  · congr 2; exact Fin.ext hq.symm
  · refine (eq_ix2 x).trans ?_
    congr 1
    · exact Fin.ext hm.symm
    · exact Fin.ext h1.symm

/-- The device's own rows. -/
theorem val_own (X : Dev nD → Vec F S512x4096 .f32) (w : Vec F S4096x1024 .f32) (c : Dev nD)
    (y : S4096x1024.Idx) (x : S512x1024.Idx) (h0 : (y (0 : Fin 2)).val = 512 * c.val + (x (0 : Fin 2)).val)
    (h1 : (y (1 : Fin 2)).val = (x (1 : Fin 2)).val) : k0_pay1 (X c) w x = val X w c y := by
  have hx : (x (0 : Fin 2)).val < 512 := (x (0 : Fin 2)).isLt
  unfold val
  rw [if_pos (by omega)]
  congr 1
  refine (eq_ix2 x).trans ?_
  congr 1
  · exact Fin.ext (by show (x (0 : Fin 2)).val = (y (0 : Fin 2)).val % 512; omega)
  · exact Fin.ext h1.symm

/-! ## The product steps -/

/-- The zero offset. -/
theorem hz : (![0, 0] : Fin 2 → Nat) = fun _ => 0 := funext fun a => by fin_cases a <;> rfl

/-- A whole load of `w` is `w`, -/
theorem read_w (f : (cc0_stg1_0 : Ref sig .tc).ty.Contents (Elt F)) (inb) :
    wM.view.readAt (Elt F) (Rect.unit (s := S4096x1024) ![0, 0] S4096x1024.size inb).toLoadRect f = f :=
  Memref.readAt_unit_zero (Elt F) cc0_stg1_0 hz _ f
/-- and one of `x` is `x`. -/
theorem read_x (f : (cc0_stg0_0 : Ref sig .tc).ty.Contents (Elt F)) (inb) :
    xM.view.readAt (Elt F) (Rect.unit (s := S512x4096) ![0, 0] S512x4096.size inb).toLoadRect f = f :=
  Memref.readAt_unit_zero (Elt F) cc0_stg0_0 hz _ f

/-- A slot's elements are elements of its buffer. -/
theorem slot_pts (c : Dev nD) (d : Bool) (k : Fin 2) (q : PosShare TreeShare) (f : (bufM d).view.ty.Contents (Elt F)) :
    (((slotM d k).view.loc (c : Thread nD τ) ↦[(slotM d k).view.set]{q} f : sProp 𝕄))
      = ((bufM d).view.loc (c : Thread nD τ) ↦[(slotM d k).view.set]{q} f) := rfl

/-- The product of the half block of `s` in a slot, stored in its rows. -/
theorem wp_dotStep (X : Dev nD → Vec F S512x4096 .f32) (w : Vec F S4096x1024 .f32) (c s : Dev nD) (hs : s ≠ c) (d : Bool) (k : Fin 2)
    (q : PosShare TreeShare) (off : Fin 2 → ℕ) (inb : ∀ a, off a + S256x1024.size a ≤ S4096x1024.size a)
    (hoff : off = ![512 * s.val + halfOff d, 0]) (R : ℕ → Prop) (Q : PUnit → sProp 𝕄) :
    iprop(owns (c : Thread nD τ) (slotM d k) q (half d (X s)) ∗ owns (c : Thread nD τ) wM fullShare w ∗ outP c (val X w c) R)
      ⊢ iprop(((owns (c : Thread nD τ) (slotM d k) q (half d (X s)) ∗ owns (c : Thread nD τ) wM fullShare w
            ∗ outP c (val X w c) (fun r => R r ∨ rowsOf d s r)) -∗ Q ⟨⟩)
          -∗ wp frame (wpE (defs₀ (F := F)) 𝒱₀ (c : Thread nD τ) none) Set.univ (dotStep (F := F) d k off inb) Q) := by
  unfold dotStep outP owns
  simp only [Prog.lift, Prog.bind_op, Prog.bind_ret]
  iintro ⟨⟨%f, %hf, Hs⟩, ⟨%g, %hg, Hw⟩, ⟨%o, %ho, Hout⟩⟩ Hk
  ihave Hs := (Entails.of_eq (slot_pts c d k q f)) $$ Hs
  iapply (wp_load 𝒱₀ (c : Thread nD τ) none Set.univ (m := bufM d) (S := (slotM d k).view.set) (q := q) (f := f)
    (subset_of_eq (slot_set d k).symm)) $$ Hs
  iintro Hs
  iapply (wp_load 𝒱₀ (c : Thread nD τ) none Set.univ (m := wM) (S := wM.view.set) (View.setOn_subset_set _ _)) $$ Hw
  iintro Hw
  iapply (wp_load 𝒱₀ (c : Thread nD τ) none Set.univ (m := oM) (S := oM.view.set) (View.setOn_subset_set _ _)) $$ Hout
  iintro Hout
  rw [show k0_pay2 ((bufM d).view.readAt (Elt F) (slotR k).toLoadRect f)
      (wM.view.readAt (Elt F) (Rect.unit (s := S4096x1024) ![0, 0] S4096x1024.size inb_S4096x1024_S4096x1024_0_0).toLoadRect g)
      = dotH (half d (X s)) w from by
        rw [pay2_eq, read_w, show g = w from hg]; exact congrArg (fun A => dotH A w) hf]
  iapply (wp_store 𝒱₀ (c : Thread nD τ) none Set.univ (m := oM) (r := Rect.unit (s := S4096x1024) off S256x1024.size inb)
    (S := oM.view.set) (View.set_slice_subset _ _)) $$ Hout
  iintro Hout
  rw [wp_ret]; imodintro
  iapply Hk
  isplitl [Hs]
  · iexists f; isplitr; · ipureintro; exact hf
    iexact Hs
  isplitl [Hw]
  · iexists g; isplitr; · ipureintro; exact hg
    iexact Hw
  iexists ((oM.access (Rect.unit (s := S4096x1024) off S256x1024.size inb)).write (Elt F) o (dotH (half d (X s)) w) Finset.univ)
  isplitr
  · ipureintro
    exact agree_write o (val X w c) R ho off 256 (512 * s.val + halfOff d) inb hoff _ fun y x h0 h1 =>
      val_half X w c s hs d y x h0 h1
  iexact Hout

/-- The device's own product. -/
theorem wp_ownStep (X : Dev nD → Vec F S512x4096 .f32) (w : Vec F S4096x1024 .f32) (c : Dev nD)
    (q : PosShare TreeShare) (R : ℕ → Prop) (Q : PUnit → sProp 𝕄) :
    iprop(owns (c : Thread nD τ) xM q (X c) ∗ owns (c : Thread nD τ) wM fullShare w ∗ outP c (val X w c) R)
      ⊢ iprop(((owns (c : Thread nD τ) xM q (X c) ∗ owns (c : Thread nD τ) wM fullShare w
            ∗ outP c (val X w c) (fun r => R r ∨ (512 * c.val ≤ r ∧ r < 512 * c.val + 512))) -∗ Q ⟨⟩)
          -∗ wp frame (wpE (defs₀ (F := F)) 𝒱₀ (c : Thread nD τ) none) Set.univ (ownStep (F := F) c) Q) := by
  unfold ownStep outP owns
  simp only [Prog.lift, Prog.bind_op, Prog.bind_ret]
  iintro ⟨⟨%f, %hf, Hs⟩, ⟨%g, %hg, Hw⟩, ⟨%o, %ho, Hout⟩⟩ Hk
  iapply (wp_load 𝒱₀ (c : Thread nD τ) none Set.univ (m := xM) (S := xM.view.set) (View.setOn_subset_set _ _)) $$ Hs
  iintro Hs
  iapply (wp_load 𝒱₀ (c : Thread nD τ) none Set.univ (m := wM) (S := wM.view.set) (View.setOn_subset_set _ _)) $$ Hw
  iintro Hw
  iapply (wp_load 𝒱₀ (c : Thread nD τ) none Set.univ (m := oM) (S := oM.view.set) (View.setOn_subset_set _ _)) $$ Hout
  iintro Hout
  rw [read_x, read_w, show g = w from hg, show f = X c from hf]
  iapply (wp_store 𝒱₀ (c : Thread nD τ) none Set.univ (m := oM) (r := Rect.unit (s := S4096x1024) (k0_off1 c) S512x1024.size (k0_off1_inb c))
    (S := oM.view.set) (View.set_slice_subset _ _)) $$ Hout
  iintro Hout
  rw [wp_ret]; imodintro
  iapply Hk
  isplitl [Hs]
  · iexists (X c); isplitr; · ipureintro; rfl
    iexact Hs
  isplitl [Hw]
  · iexists w; isplitr; · ipureintro; rfl
    iexact Hw
  iexists ((oM.access (Rect.unit (s := S4096x1024) (k0_off1 c) S512x1024.size (k0_off1_inb c))).write (Elt F) o (k0_pay1 (X c) w) Finset.univ)
  isplitr
  · ipureintro
    exact agree_write o (val X w c) R ho (k0_off1 c) 512 (512 * c.val) (k0_off1_inb c) (k0_off1_eq c) _ fun y x h0 h1 =>
      val_own X w c y x h0 h1
  iexact Hout

end Cert.KernelIdeal.Ring

end
-- ==== Proof.KernelIdeal.Stages.lean ====
/-
# The hops

What a device holds of each direction before a hop, and how a hop turns it into what the device holds before the next.
-/
module

public import proofs.«01_k».proof.Proof.KernelIdeal.Products

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What every device knows -/

/-- The semaphores of the exchange, numbered: the eight of the transfers, the two of the credits, the barrier. -/
def csem (k : Fin 11) : SemLoc sig :=
  if h : k.val < 8 then .dma ⟨3 + k.val, by show _ < 11; omega⟩ else .reg ⟨k.val - 8, by show _ < 3; omega⟩

/-- The semaphore of a device by its number. -/
def cellAt (p : Dev nD × Fin 11) : GSem nD τ sig := ((p.1 : Thread nD τ), csem p.2)

/-- The number of a send's, a landing's and a credit's semaphore. -/
def kSend (d : Bool) (s : Fin 2) : Fin 11 := ⟨4 * d.toNat + s.val, by revert d s; decide⟩
/-- The number of a receive semaphore, -/
def kRecv (d : Bool) (s : Fin 2) : Fin 11 := ⟨4 * d.toNat + (2 + s.val), by revert d s; decide⟩
/-- a credit semaphore, -/
def kCred (d : Bool) : Fin 11 := ⟨8 + d.toNat, by revert d; decide⟩
/-- and the barrier. -/
def kBar : Fin 11 := ⟨10, by decide⟩

/-- The numbers name the semaphores: -/
theorem cellAt_send (d : Bool) (c : Dev nD) (s : Fin 2) : cellAt (c, kSend d s) = sendCell d c s := by
  cases d <;> fin_cases s <;> rfl
/-- the receive semaphores, -/
theorem cellAt_recv (d : Bool) (c : Dev nD) (s : Fin 2) : cellAt (c, kRecv d s) = recvCell d c s := by
  cases d <;> fin_cases s <;> rfl
/-- the credit semaphores, -/
theorem cellAt_cred (d : Bool) (c : Dev nD) : cellAt (c, kCred d) = credCell d c := by
  cases d <;> rfl
/-- and the barrier. -/
theorem cellAt_bar (c : Dev nD) : cellAt (c, kBar) = barCell c := rfl

variable (X : Dev nD → Vec F S512x4096 .f32)

/-- Every cell is under the schedule and has come to round 0; and the levels. -/
def recs (K : Dev nD × Fin 11 → ℕ) : sProp 𝕄 :=
  iprop((bigSep Finset.univ fun p : Dev nD × Fin 11 => iprop(cellInv ER (ringRd X) (K p) (cellAt p) ∗ reached ER (cellAt p) 0)) ∗ levAts L lv)

/-- It stays known. -/
instance recs_persistent (K : Dev nD × Fin 11 → ℕ) : BI.Persistent (recs X K) := by unfold recs; infer_instance

/-- What is known of one semaphore, -/
theorem rec_at (K : Dev nD × Fin 11 → ℕ) (p : Dev nD × Fin 11) (g : GSem nD τ sig) (h : cellAt p = g) :
    recs X K ⊢ iprop(cellInv ER (ringRd X) (K p) g ∗ reached ER g 0) := by
  subst h
  unfold recs
  exact sep_elim_left.trans (bigSep_elim (Finset.mem_univ p))

/-- and of the levels. -/
theorem rec_lev (K : Dev nD × Fin 11 → ℕ) : recs X K ⊢ levAts L lv := by
  unfold recs; exact sep_elim_right

/-! ## A direction's state -/

section Dir
variable (d : Bool) (c : Dev nD)

/-- What passing on the block of hop `j` spends: the credit to come and its owner's token upstream, the tokens of the next
    hop's send and landing, and the credit of the landing the next hop brings. -/
def pack (j : ℕ) : sProp 𝕄 :=
  iprop(cred (tallyAt (credCell d c) j 1) ∗ dutyTok ER (credCell d (up d c)) j false
    ∗ dutyTok ER (sendCell d c (sl (j + 1))) ((j + 1) / 2) false ∗ dutyTok ER (recvCell d (nb d c) (sl (j + 1))) ((j + 1) / 2) false
    ∗ cred (tallyAt (recvCell d c (sl (j + 1))) (j + 1) N))

/-- Before hop 0 the device's second slot, free since the start; later it is the source of the hop. -/
def spare (h : ℕ) : sProp 𝕄 := match h with | 0 => slotAny (F := F) d c (sl 1) | _ + 1 => iprop(emp)
/-- After hop 0 the device's own half block again. -/
def kept (h : ℕ) : sProp 𝕄 := match h with | 0 => iprop(emp) | _ + 1 => owns (c : Thread nD τ) (halfM d) fullShare (half d (X c))

/-- Before the waits of hop `h`: its send is under way. -/
def stA (h : ℕ) : sProp 𝕄 :=
  iprop(posn (F := F) d c h ∗ posn (F := F) d c (h + 1) ∗ marks (F := F) d c (h + 1) ∗ atPos ER (credCell d c) h ∅ 0
    ∗ bigSep (Finset.Ico h 6) (pack (F := F) d c)
    ∗ cred (tallyAt (sendCell d c (sl h)) h N) ∗ cred (tallyAt (recvCell d c (sl h)) h N)
    ∗ owns (c : Thread nD τ) (srcM d h) fullShare.right (cont X d c h) ∗ spare (F := F) d c h ∗ kept X d c h)

/-- After them: hop `h` has landed, and the slot of hop `h + 1` is free. -/
def stB (h : ℕ) : sProp 𝕄 :=
  iprop(posn (F := F) d c (h + 1) ∗ posn (F := F) d c (h + 2) ∗ marks (F := F) d c (h + 1) ∗ marks (F := F) d c (h + 2) ∗ atPos ER (credCell d c) h ∅ 0
    ∗ bigSep (Finset.Ico h 6) (pack (F := F) d c)
    ∗ owns (c : Thread nD τ) (slotM d (sl h)) fullShare (cont X d c (h + 1)) ∗ reached ER (credCell d (up d c)) h
    ∗ slotAny (F := F) d c (sl (h + 1)) ∗ kept X d c (h + 1))

/-- After the credit of hop `h`. -/
def stC (h : ℕ) : sProp 𝕄 :=
  iprop(posn (F := F) d c (h + 1) ∗ posn (F := F) d c (h + 2) ∗ marks (F := F) d c (h + 1) ∗ marks (F := F) d c (h + 2) ∗ atPos ER (credCell d c) h ∅ 0
    ∗ bigSep (Finset.Ico (h + 1) 6) (pack (F := F) d c)
    ∗ (cred (tallyAt (credCell d c) h 1)
      ∗ dutyTok ER (sendCell d c (sl (h + 1))) ((h + 1) / 2) false ∗ dutyTok ER (recvCell d (nb d c) (sl (h + 1))) ((h + 1) / 2) false
      ∗ cred (tallyAt (recvCell d c (sl (h + 1))) (h + 1) N))
    ∗ owns (c : Thread nD τ) (slotM d (sl h)) fullShare (cont X d c (h + 1)) ∗ kept X d c (h + 1))

/-- The source of a hop, when its send has completed: free for the next hop, or the device's own half block. -/
theorem freed (h : ℕ) :
    iprop(owns (c : Thread nD τ) (srcM d h) fullShare (cont X d c h) ∗ spare (F := F) d c h ∗ kept X d c h)
      ⊢ iprop(slotAny (F := F) d c (sl (h + 1)) ∗ kept X d c (h + 1)) := by
  match h with
  | 0 =>
    show iprop(owns (c : Thread nD τ) (halfM d) fullShare (half d (X c)) ∗ slotAny (F := F) d c (sl 1) ∗ emp)
      ⊢ iprop(slotAny (F := F) d c (sl 1) ∗ owns (c : Thread nD τ) (halfM d) fullShare (half d (X c)))
    iintro ⟨H, Hs, -⟩
    isplitl [Hs] <;> iassumption
  | h + 1 =>
    show iprop(owns (c : Thread nD τ) (slotM d (sl h)) fullShare (cont X d c (h + 1)) ∗ emp ∗ owns (c : Thread nD τ) (halfM d) fullShare (half d (X c)))
      ⊢ iprop(slotAny (F := F) d c (sl (h + 2)) ∗ owns (c : Thread nD τ) (halfM d) fullShare (half d (X c)))
    rw [sl_succ_succ]
    iintro ⟨H, -, Hk⟩
    isplitl [H]
    · iapply (slotAny_of d c (sl h) (cont X d c (h + 1))); iexact H
    iexact Hk

variable (K : Dev nD × Fin 11 → ℕ) (h : ℕ)

/-- The waits of a hop. -/
theorem dir_wait (hh : h < 7) (O : CellTallies nD τ sig ℕ) (hO : Above (2 + 2 * h) O) (Q : PUnit → sProp 𝕄) :
    iprop(recs X K ∗ stA X d c h ∗ owesE (F := F) c O)
      ⊢ iprop(((stB X d c h ∗ owesE (F := F) c O) -∗ Q ⟨⟩)
          -∗ wp frame (wpE (defs₀ (F := F)) 𝒱₀ (c : Thread nD τ) none) Set.univ (waitStep d h) Q) := by
  unfold stA stB
  iintro ⟨#HR, ⟨Hp0, Hp1, #Hm, Hac, Hpk, HcS, HcR, Hsrc, Hsp, Hkp⟩, HO⟩ Hk
  ihave #HS := (rec_at X K (c, kSend d (sl h)) _ (cellAt_send d c (sl h))) $$ HR
  ihave #HV := (rec_at X K (c, kRecv d (sl h)) _ (cellAt_recv d c (sl h))) $$ HR
  ihave #Hlev := (rec_lev X K) $$ HR
  icases HS with ⟨#HS, -⟩
  icases HV with ⟨#HV, -⟩
  iapply (wp_waitStep X c d h _ _ hh O hO Q) $$ [Hp0 HcS HcR Hsrc HO]
  · isplitr; · iexact HS
    isplitr; · iexact HV
    isplitr; · iexact Hlev
    isplitl [Hp0]; · iexact Hp0
    isplitl [HcS]; · iexact HcS
    isplitl [HcR]; · iexact HcR
    isplitl [Hsrc] <;> iassumption
  iintro ⟨Hp2, #Hm2, Hsrc, Hslot, #Hup, HO⟩
  iapply Hk
  isplitr [HO]
  · ihave Hf := (freed X d c h) $$ [Hsrc Hsp Hkp]
    · isplitl [Hsrc]; · iexact Hsrc
      isplitl [Hsp] <;> iassumption
    icases Hf with ⟨Hfree, Hkp⟩
    isplitl [Hp1]; · iexact Hp1
    isplitl [Hp2]; · iexact Hp2
    isplitr; · iexact Hm
    isplitr; · iexact Hm2
    isplitl [Hac]; · iexact Hac
    isplitl [Hpk]; · iexact Hpk
    isplitl [Hslot]; · iexact Hslot
    isplitr; · iexact Hup
    isplitl [Hfree] <;> iassumption
  iexact HO

/-- The credit of a hop. -/
theorem dir_credit (hh : h < 6) (n : Dev nD) (hn : n = up d c) (O O' : CellTallies nD τ sig ℕ)
    (hO : O' = O + tallyAt (credCell d (up d c)) h 1) (Q : PUnit → sProp 𝕄) :
    iprop(recs X K ∗ stB X d c h ∗ owesE (F := F) c O')
      ⊢ iprop(((stC X d c h ∗ owesE (F := F) c O) -∗ Q ⟨⟩)
          -∗ wp frame (wpE (defs₀ (F := F)) 𝒱₀ (c : Thread nD τ) none) Set.univ (creditStep (F := F) d n) Q) := by
  unfold stB stC
  rw [ico_step hh, bigSep_insert (not_mem_ico h 6)]
  iintro ⟨#HR, ⟨Hp1, Hp2, #Hm1, #Hm2, Hac, Hpk, Hslot, #Hup, Hfree, Hkp⟩, HO⟩ Hk
  ihave Hpk := (Entails.of_eq (show BI.sep (pack (F := F) d c h) (bigSep (Finset.Ico (h + 1) 6) (pack (F := F) d c)) = iprop(pack (F := F) d c h ∗ bigSep (Finset.Ico (h + 1) 6) (pack (F := F) d c)) from rfl)) $$ Hpk
  unfold pack
  icases Hpk with ⟨⟨Hc, Ht, HtS, HtV, HcR⟩, Hpk⟩
  ihave #HC := (rec_at X K (up d c, kCred d) _ (cellAt_cred d (up d c))) $$ HR
  icases HC with ⟨#HC, -⟩
  ihave #Hm1' := (show marks (F := F) d c (h + 1) ⊢ reached ER (recvCell d c (sl (h + 1))) ((h + 1) / 2) by unfold marks; exact sep_elim_right) $$ Hm1
  iapply (wp_creditStep X c d h _ hh n hn O O' hO Q) $$ [Ht Hfree HO]
  · isplitr; · iexact HC
    isplitl [HO]; · iexact HO
    isplitl [Ht]; · iexact Ht
    isplitr; · iexact Hup
    isplitl [Hfree]; · unfold slotAny; iexact Hfree
    iexact Hm1'
  iintro HO
  iapply Hk
  isplitr [HO]
  · isplitl [Hp1]; · iexact Hp1
    isplitl [Hp2]; · iexact Hp2
    isplitr; · iexact Hm1
    isplitr; · iexact Hm2
    isplitl [Hac]; · iexact Hac
    isplitl [Hpk]; · iexact Hpk
    isplitl [Hc HtS HtV HcR]
    · isplitl [Hc]; · iexact Hc
      isplitl [HtS]; · iexact HtS
      isplitl [HtV] <;> iassumption
    isplitl [Hslot] <;> iassumption
  iexact HO

/-- The wait for the credit, and the send of the next hop. -/
theorem dir_pass (hh : h < 6) (n : Dev nD) (hn : n = nb d c) (O O' : CellTallies nD τ sig ℕ)
    (hO : O' = O + tallyAt (recvCell d (nb d c) (sl (h + 1))) (h + 1) N) (hA : Above (3 + 2 * h) O') (Q : PUnit → sProp 𝕄) :
    iprop(recs X K ∗ stC X d c h ∗ owesE (F := F) c O')
      ⊢ iprop(((stA X d c (h + 1) ∗ owesE (F := F) c O) -∗ Q ⟨⟩)
          -∗ wp frame (wpE (defs₀ (F := F)) 𝒱₀ (c : Thread nD τ) none) Set.univ (awaitStep (F := F) d)
              (fun _ => wp frame (wpE (defs₀ (F := F)) 𝒱₀ (c : Thread nD τ) none) Set.univ (sendStep (F := F) d (h + 1) n) Q)) := by
  unfold stC stA
  rw [show spare (F := F) d c (h + 1) = iprop(emp) from rfl]
  iintro ⟨#HR, ⟨Hp1, Hp2, #Hm1, #Hm2, Hac, Hpk, ⟨Hc, HtS, HtV, HcR⟩, Hslot, Hkp⟩, HO⟩ Hk
  ihave #HC := (rec_at X K (c, kCred d) _ (cellAt_cred d c)) $$ HR
  ihave #HS := (rec_at X K (c, kSend d (sl (h + 1))) _ (cellAt_send d c (sl (h + 1)))) $$ HR
  ihave #HV := (rec_at X K (nb d c, kRecv d (sl (h + 1))) _ (cellAt_recv d (nb d c) (sl (h + 1)))) $$ HR
  ihave #Hlev := (rec_lev X K) $$ HR
  icases HC with ⟨#HC, -⟩
  icases HS with ⟨#HS, -⟩
  icases HV with ⟨#HV, -⟩
  ihave #Hm1' := (show marks (F := F) d c (h + 1) ⊢ reached ER (sendCell d c (sl (h + 1))) ((h + 1) / 2) by unfold marks; exact sep_elim_left) $$ Hm1
  iapply (wp_awaitStep X c d h _ hh O' hA _) $$ [HO Hac Hc]
  · isplitr; · iexact HC
    isplitr; · iexact Hlev
    isplitl [HO]; · iexact HO
    isplitl [Hac] <;> iassumption
  iintro ⟨HO, Hac, #Hr, Hg⟩
  iapply (wp_sendStep X c d (h + 1) _ _ (by omega) n hn O O' hO _) $$ [HO Hslot Hg HtS HtV]
  · isplitr; · iexact HS
    isplitr; · iexact HV
    isplitl [HO]; · iexact HO
    isplitl [Hslot]; · iexact Hslot
    isplitl [Hg]; · iexact Hg
    isplitl [HtS]; · iexact HtS
    isplitr; · iexact Hm1'
    isplitl [HtV]; · iexact HtV
    iexact Hr
  iintro ⟨HO, HcS, Hsrc⟩
  iapply Hk
  isplitr [HO]
  · isplitl [Hp1]; · iexact Hp1
    isplitl [Hp2]; · iexact Hp2
    isplitr; · iexact Hm2
    isplitl [Hac]; · iexact Hac
    isplitl [Hpk]; · iexact Hpk
    isplitl [HcS]; · iexact HcS
    isplitl [HcR]; · iexact HcR
    isplitl [Hsrc]; · iexact Hsrc
    isplitr; · iempintro
    iexact Hkp
  iexact HO

end Dir

end Cert.KernelIdeal.Ring

end
-- ==== Proof.KernelIdeal.Hops.lean ====
/-
# A hop

Both directions of a hop: the waits, the credits, the sends of the next hop, and the two products.
-/
module

public import proofs.«01_k».proof.Proof.KernelIdeal.Stages

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The rows of the products -/

/-- The rows a product of the first direction is stored at: those of the block that came. -/
theorem off2_eq (c : Dev nD) (j : Fin 7) :
    k0_off2 c (BitVec.ofNat 32 j.val) = ![512 * ((up false)^[j.val + 1] c).val + halfOff false, 0] := by
  revert c j; decide +kernel
/-- Those of the second direction. -/
theorem off3_eq (c : Dev nD) (j : Fin 7) :
    k0_off3 c (BitVec.ofNat 32 j.val) = ![512 * ((up true)^[j.val + 1] c).val + halfOff true, 0] := by
  revert c j; decide +kernel

variable (X : Dev nD → Vec F S512x4096 .f32) (w : Vec F S4096x1024 .f32) (c : Dev nD)

/-- The two products after hop `j`: the rows of the two blocks that came are there. -/
theorem wp_products (j : Fin 7) (q : PosShare TreeShare) (Q : PUnit → sProp 𝕄) :
    iprop(owns (c : Thread nD τ) (slotM false (sl j.val)) q (cont X false c (j.val + 1)) ∗ owns (c : Thread nD τ) (slotM true (sl j.val)) q (cont X true c (j.val + 1))
        ∗ owns (c : Thread nD τ) wM fullShare w ∗ outP c (val X w c) (covered c j.val))
      ⊢ iprop(((owns (c : Thread nD τ) (slotM false (sl j.val)) q (cont X false c (j.val + 1)) ∗ owns (c : Thread nD τ) (slotM true (sl j.val)) q (cont X true c (j.val + 1))
            ∗ owns (c : Thread nD τ) wM fullShare w ∗ outP c (val X w c) (covered c (j.val + 1))) -∗ Q ⟨⟩)
          -∗ wp frame (wpE (defs₀ (F := F)) 𝒱₀ (c : Thread nD τ) none) Set.univ (products (F := F) c j) Q) := by
  unfold products
  rw [wp_bind]
  iintro ⟨H0, H1, Hw, Ho⟩ Hk
  iapply (wp_dotStep X w c ((up false)^[j.val + 1] c) (ring_ne false c j) false (sl j.val) q _ _ (off2_eq c j) (covered c j.val) _) $$ [H0 Hw Ho]
  · isplitl [H0]; · iexact H0
    isplitl [Hw] <;> iassumption
  iintro ⟨H0, Hw, Ho⟩
  iapply (wp_dotStep X w c ((up true)^[j.val + 1] c) (ring_ne true c j) true (sl j.val) q _ _ (off3_eq c j) _ _) $$ [H1 Hw Ho]
  · isplitl [H1]; · iexact H1
    isplitl [Hw] <;> iassumption
  iintro ⟨H1, Hw, Ho⟩
  iapply Hk
  isplitl [H0]; · iexact H0
  isplitl [H1]; · iexact H1
  isplitl [Hw]; · iexact Hw
  iapply (outP_mono c (val X w c) (covered_succ c j.val)); iexact Ho

/-- What is owed: the sends from `a` on and the credits from `b` on of the first direction, from `a'` and `b'` on of the second. -/
abbrev due (a b a' b' : ℕ) : CellTallies nD τ sig ℕ := owedDir false c a b + owedDir true c a' b'

/-- Everything still due lies above a level below its next hops and grants. -/
theorem above_due {n a b a' b' : ℕ} (h1 : n < 2 + 2 * a) (h2 : n < 3 + 2 * b) (h3 : n < 2 + 2 * a') (h4 : n < 3 + 2 * b') :
    Above n (due c a b a' b') := above_add (above_owedDir _ _ h1 h2) (above_owedDir _ _ h3 h4)

/-- What is due, one grant to the previous device taken out, -/
theorem due_cred0 (a b a' b' : ℕ) (h : b < 6) : due c a b a' b' = due c a (b + 1) a' b' + tallyAt (credCell false (up false c)) b 1 := by
  unfold due; rw [owedDir_cred false c a h, add_right_comm]
/-- one grant to the next device, -/
theorem due_cred1 (a b a' b' : ℕ) (h : b' < 6) : due c a b a' b' = due c a b a' (b' + 1) + tallyAt (credCell true (up true c)) b' 1 := by
  unfold due; rw [owedDir_cred true c a' h, add_assoc]
/-- one hop to the next device, -/
theorem due_send0 (a b a' b' : ℕ) (h : a < 7) : due c a b a' b' = due c (a + 1) b a' b' + tallyAt (recvCell false (nb false c) (sl a)) a N := by
  unfold due; rw [owedDir_send false c b h, add_right_comm]
/-- and one hop to the previous device. -/
theorem due_send1 (a b a' b' : ℕ) (h : a' < 7) : due c a b a' b' = due c a b (a' + 1) b' + tallyAt (recvCell true (nb true c) (sl a')) a' N := by
  unfold due; rw [owedDir_send true c b' h, add_assoc]

/-- Before hop `h`: both directions' sends are under way, and the rows of the blocks that came are stored. -/
def hopSt (h : ℕ) : sProp 𝕄 :=
  iprop(stA X false c h ∗ stA X true c h ∗ owesE (F := F) c (due c (h + 1) h (h + 1) h)
    ∗ owns (c : Thread nD τ) wM fullShare w ∗ outP c (val X w c) (covered c h))

variable (K : Dev nD × Fin 11 → ℕ)

/-- Both waits of a hop. -/
theorem wp_waits (h : ℕ) (hh : h < 7) (O : CellTallies nD τ sig ℕ) (hO : Above (2 + 2 * h) O) (Q : PUnit → sProp 𝕄) :
    iprop(recs X K ∗ stA X false c h ∗ stA X true c h ∗ owesE (F := F) c O)
      ⊢ iprop(((stB X false c h ∗ stB X true c h ∗ owesE (F := F) c O) -∗ Q ⟨⟩)
          -∗ wp frame (wpE (defs₀ (F := F)) 𝒱₀ (c : Thread nD τ) none) Set.univ (waits (F := F) h) Q) := by
  unfold waits
  rw [wp_bind]
  iintro ⟨#HR, HA0, HA1, HO⟩ Hk
  iapply (dir_wait X false c K h hh O hO _) $$ [HA0 HO]
  · isplitr; · iexact HR
    isplitl [HA0] <;> iassumption
  iintro ⟨HB0, HO⟩
  iapply (dir_wait X true c K h hh O hO _) $$ [HA1 HO]
  · isplitr; · iexact HR
    isplitl [HA1] <;> iassumption
  iintro ⟨HB1, HO⟩
  iapply Hk
  isplitl [HB0]; · iexact HB0
  isplitl [HB1] <;> iassumption

/-- The credits of a hop and the sends of the next. -/
theorem wp_forward (h : ℕ) (hh : h < 6) (u0 u1 n0 n1 : Dev nD) (hu0 : u0 = up false c) (hu1 : u1 = up true c)
    (hn0 : n0 = nb false c) (hn1 : n1 = nb true c) (Q : PUnit → sProp 𝕄) :
    iprop(recs X K ∗ stB X false c h ∗ stB X true c h ∗ owesE (F := F) c (due c (h + 1) h (h + 1) h))
      ⊢ iprop(((stA X false c (h + 1) ∗ stA X true c (h + 1)
            ∗ owesE (F := F) c (due c (h + 2) (h + 1) (h + 2) (h + 1))) -∗ Q ⟨⟩)
          -∗ wp frame (wpE (defs₀ (F := F)) 𝒱₀ (c : Thread nD τ) none) Set.univ (forward (F := F) h u0 u1 n0 n1) Q) := by
  unfold forward
  rw [wp_bind, wp_bind, wp_bind, wp_bind, wp_bind]
  iintro ⟨#HR, HB0, HB1, HO⟩ Hk
  iapply (dir_credit X false c K h hh u0 hu0 (due c (h + 1) (h + 1) (h + 1) h) (due c (h + 1) h (h + 1) h) (due_cred0 c _ _ _ _ hh) _) $$ [HB0 HO]
  · isplitr; · iexact HR
    isplitl [HB0] <;> iassumption
  iintro ⟨HC0, HO⟩
  iapply (dir_credit X true c K h hh u1 hu1 (due c (h + 1) (h + 1) (h + 1) (h + 1)) (due c (h + 1) (h + 1) (h + 1) h) (due_cred1 c _ _ _ _ hh) _) $$ [HB1 HO]
  · isplitr; · iexact HR
    isplitl [HB1] <;> iassumption
  iintro ⟨HC1, HO⟩
  iapply (dir_pass X false c K h hh n0 hn0 (due c (h + 2) (h + 1) (h + 1) (h + 1)) (due c (h + 1) (h + 1) (h + 1) (h + 1))
    (due_send0 c _ _ _ _ (by omega)) (above_due c (by omega) (by omega) (by omega) (by omega)) _) $$ [HC0 HO]
  · isplitr; · iexact HR
    isplitl [HC0] <;> iassumption
  iintro ⟨HA0, HO⟩
  iapply (dir_pass X true c K h hh n1 hn1 (due c (h + 2) (h + 1) (h + 2) (h + 1)) (due c (h + 2) (h + 1) (h + 1) (h + 1))
    (due_send1 c _ _ _ _ (by omega)) (above_due c (by omega) (by omega) (by omega) (by omega)) _) $$ [HC1 HO]
  · isplitr; · iexact HR
    isplitl [HC1] <;> iassumption
  iintro ⟨HA1, HO⟩
  iapply Hk
  isplitl [HA0]; · iexact HA0
  isplitl [HA1] <;> iassumption

/-- The block a direction has just received, of which half a share is lent to the send that passes it on. -/
theorem stA_slot (d : Bool) (h : ℕ) :
    stA X d c (h + 1) ⊢ iprop(owns (c : Thread nD τ) (slotM d (sl h)) fullShare.right (cont X d c (h + 1))
      ∗ (owns (c : Thread nD τ) (slotM d (sl h)) fullShare.right (cont X d c (h + 1)) -∗ stA X d c (h + 1))) := by
  unfold stA
  rw [show srcM d (h + 1) = slotM d (sl h) from rfl]
  iintro ⟨H1, H2, H3, H4, H5, H6, H7, H8, H9, H10⟩
  isplitl [H8]; · iexact H8
  iintro H8
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-- A hop, not the last. -/
theorem wp_hop (j : Fin 7) (hj : j.val < 6) (u0 u1 n0 n1 : Dev nD) (hu0 : u0 = up false c) (hu1 : u1 = up true c)
    (hn0 : n0 = nb false c) (hn1 : n1 = nb true c) (Q : PUnit → sProp 𝕄) :
    iprop(recs X K ∗ hopSt X w c j.val)
      ⊢ iprop((hopSt X w c (j.val + 1) -∗ Q ⟨⟩)
          -∗ wp frame (wpE (defs₀ (F := F)) 𝒱₀ (c : Thread nD τ) none) Set.univ (hop (F := F) c j u0 u1 n0 n1) Q) := by
  unfold hop hopSt
  rw [wp_bind, wp_bind]
  iintro ⟨#HR, HA0, HA1, HO, Hw, Hout⟩ Hk
  iapply (wp_waits X c K j.val (by omega) (due c (j.val + 1) j.val (j.val + 1) j.val)
    (above_due c (by omega) (by omega) (by omega) (by omega)) _) $$ [HA0 HA1 HO]
  · isplitr; · iexact HR
    isplitl [HA0]; · iexact HA0
    isplitl [HA1] <;> iassumption
  iintro ⟨HB0, HB1, HO⟩
  iapply (wp_forward X c K j.val hj u0 u1 n0 n1 hu0 hu1 hn0 hn1 _) $$ [HB0 HB1 HO]
  · isplitr; · iexact HR
    isplitl [HB0]; · iexact HB0
    isplitl [HB1] <;> iassumption
  iintro ⟨HA0, HA1, HO⟩
  ihave HA0 := (stA_slot X c false j.val) $$ HA0
  ihave HA1 := (stA_slot X c true j.val) $$ HA1
  icases HA0 with ⟨Hs0, HA0⟩
  icases HA1 with ⟨Hs1, HA1⟩
  iapply (wp_products X w c j fullShare.right Q) $$ [Hs0 Hs1 Hw Hout]
  · isplitl [Hs0]; · iexact Hs0
    isplitl [Hs1]; · iexact Hs1
    isplitl [Hw] <;> iassumption
  iintro ⟨Hs0, Hs1, Hw, Hout⟩
  iapply Hk
  isplitl [HA0 Hs0]; · iapply HA0; iexact Hs0
  isplitl [HA1 Hs1]; · iapply HA1; iexact Hs1
  isplitl [HO]; · iexact HO
  isplitl [Hw] <;> iassumption

/-- After the last hop, before anything is closed. -/
def lastSt : sProp 𝕄 :=
  iprop(stB X false c 6 ∗ stB X true c 6 ∗ owesE (F := F) c 0 ∗ owns (c : Thread nD τ) wM fullShare w ∗ outP c (val X w c) (covered c 7))

/-- What a direction holds of the last landing, at the full share. -/
theorem stB_slot (d : Bool) (h : ℕ) :
    stB X d c h ⊢ iprop(owns (c : Thread nD τ) (slotM d (sl h)) fullShare (cont X d c (h + 1))
      ∗ (owns (c : Thread nD τ) (slotM d (sl h)) fullShare (cont X d c (h + 1)) -∗ stB X d c h)) := by
  unfold stB
  iintro ⟨H1, H2, H3, H4, H5, H6, H7, H8, H9, H10⟩
  isplitl [H7]; · iexact H7
  iintro H7
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-- The last hop. -/
theorem wp_lastHop (Q : PUnit → sProp 𝕄) :
    iprop(recs X K ∗ hopSt X w c 6)
      ⊢ iprop((lastSt X w c -∗ Q ⟨⟩)
          -∗ wp frame (wpE (defs₀ (F := F)) 𝒱₀ (c : Thread nD τ) none) Set.univ (lastHop (F := F) c) Q) := by
  unfold lastHop hopSt lastSt
  rw [wp_bind, show due c (6 + 1) 6 (6 + 1) 6 = 0 by unfold due; rw [owedDir_end, owedDir_end, add_zero]]
  iintro ⟨#HR, HA0, HA1, HO, Hw, Hout⟩ Hk
  iapply (wp_waits X c K 6 (by omega) 0 (above_zero _) _) $$ [HA0 HA1 HO]
  · isplitr; · iexact HR
    isplitl [HA0]; · iexact HA0
    isplitl [HA1] <;> iassumption
  iintro ⟨HB0, HB1, HO⟩
  ihave HB0 := (stB_slot X c false 6) $$ HB0
  ihave HB1 := (stB_slot X c true 6) $$ HB1
  icases HB0 with ⟨Hs0, HB0⟩
  icases HB1 with ⟨Hs1, HB1⟩
  iapply (wp_products X w c 6 fullShare Q) $$ [Hs0 Hs1 Hw Hout]
  · isplitl [Hs0]; · iexact Hs0
    isplitl [Hs1]; · iexact Hs1
    isplitl [Hw]; · iexact Hw
    iexact Hout
  iintro ⟨Hs0, Hs1, Hw, Hout⟩
  iapply Hk
  isplitl [HB0 Hs0]; · iapply HB0; iexact Hs0
  isplitl [HB1 Hs1]; · iapply HB1; iexact Hs1
  isplitl [HO]; · iexact HO
  isplitl [Hw]; · iexact Hw
  iexact Hout

end Cert.KernelIdeal.Ring

end
-- ==== Proof.KernelIdeal.Body.lean ====
/-
# The body of a device

From the handshake with both neighbours to the last product: the body run once, at any device.
-/
module

public import proofs.«01_k».proof.Proof.KernelIdeal.Hops

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The devices the body names -/

/-- The handshake goes to both neighbours, the first sends too. -/
theorem devs_start (c : Dev nD) :
    (⟨k0_dev1 c, k0_dev1_lt c⟩ : Dev nD) = up false c ∧ (⟨k0_dev2 c, k0_dev2_lt c⟩ : Dev nD) = up true c
      ∧ (⟨k0_dev3 c, k0_dev3_lt c⟩ : Dev nD) = nb false c ∧ (⟨k0_dev4 c, k0_dev4_lt c⟩ : Dev nD) = nb true c := by
  revert c; decide +kernel
/-- At each hop the credits go upstream and the sends downstream. -/
theorem devs_hop0 (c : Dev nD) :
    (⟨k0_dev5 c, k0_dev5_lt c⟩ : Dev nD) = up false c ∧ (⟨k0_dev6 c, k0_dev6_lt c⟩ : Dev nD) = up true c
      ∧ (⟨k0_dev7 c, k0_dev7_lt c⟩ : Dev nD) = nb false c ∧ (⟨k0_dev8 c, k0_dev8_lt c⟩ : Dev nD) = nb true c := by
  revert c; decide +kernel
/-- The same at hop 1. -/
theorem devs_hop1 (c : Dev nD) :
    (⟨k0_dev9 c, k0_dev9_lt c⟩ : Dev nD) = up false c ∧ (⟨k0_dev10 c, k0_dev10_lt c⟩ : Dev nD) = up true c
      ∧ (⟨k0_dev11 c, k0_dev11_lt c⟩ : Dev nD) = nb false c ∧ (⟨k0_dev12 c, k0_dev12_lt c⟩ : Dev nD) = nb true c := by
  revert c; decide +kernel
/-- The same at hop 2. -/
theorem devs_hop2 (c : Dev nD) :
    (⟨k0_dev13 c, k0_dev13_lt c⟩ : Dev nD) = up false c ∧ (⟨k0_dev14 c, k0_dev14_lt c⟩ : Dev nD) = up true c
      ∧ (⟨k0_dev15 c, k0_dev15_lt c⟩ : Dev nD) = nb false c ∧ (⟨k0_dev16 c, k0_dev16_lt c⟩ : Dev nD) = nb true c := by
  revert c; decide +kernel
/-- The same at hop 3. -/
theorem devs_hop3 (c : Dev nD) :
    (⟨k0_dev17 c, k0_dev17_lt c⟩ : Dev nD) = up false c ∧ (⟨k0_dev18 c, k0_dev18_lt c⟩ : Dev nD) = up true c
      ∧ (⟨k0_dev19 c, k0_dev19_lt c⟩ : Dev nD) = nb false c ∧ (⟨k0_dev20 c, k0_dev20_lt c⟩ : Dev nD) = nb true c := by
  revert c; decide +kernel
/-- The same at hop 4. -/
theorem devs_hop4 (c : Dev nD) :
    (⟨k0_dev21 c, k0_dev21_lt c⟩ : Dev nD) = up false c ∧ (⟨k0_dev22 c, k0_dev22_lt c⟩ : Dev nD) = up true c
      ∧ (⟨k0_dev23 c, k0_dev23_lt c⟩ : Dev nD) = nb false c ∧ (⟨k0_dev24 c, k0_dev24_lt c⟩ : Dev nD) = nb true c := by
  revert c; decide +kernel
/-- The same at hop 5. -/
theorem devs_hop5 (c : Dev nD) :
    (⟨k0_dev25 c, k0_dev25_lt c⟩ : Dev nD) = up false c ∧ (⟨k0_dev26 c, k0_dev26_lt c⟩ : Dev nD) = up true c
      ∧ (⟨k0_dev27 c, k0_dev27_lt c⟩ : Dev nD) = nb false c ∧ (⟨k0_dev28 c, k0_dev28_lt c⟩ : Dev nD) = nb true c := by
  revert c; decide +kernel

variable (X : Dev nD → Vec F S512x4096 .f32) (w : Vec F S4096x1024 .f32) (c : Dev nD) (K : Dev nD × Fin 11 → ℕ)

/-! ## The handshake -/

/-- Telling the device upstream of a direction that the first slot of that direction is free. -/
theorem wp_ready (d : Bool) (n : Dev nD) (hn : n = up d c) (O O' : CellTallies nD τ sig ℕ)
    (hO : O' = O + tallyAt (barCell (up d c)) 0 1) (Q : PUnit → sProp 𝕄) :
    iprop(recs X K ∗ owesE (F := F) c O' ∗ dutyTok ER (barCell (up d c)) 0 d ∗ slotAny (F := F) d c (sl 0))
      ⊢ iprop((owesE (F := F) c O -∗ Q ⟨⟩)
          -∗ wp frame (wpE (defs₀ (F := F)) 𝒱₀ (c : Thread nD τ) none) Set.univ (semSignalWord n barS 1#32 : P F PUnit) Q) := by
  subst hn
  unfold owesE semSignalWord
  iintro ⟨#HR, ⟨%W, HO⟩, Ht, HY⟩ Hk
  ihave #HB := (rec_at X K (up d c, kBar) _ (cellAt_bar (up d c))) $$ HR
  ihave #HV := (rec_at X K (c, kRecv d (sl 0)) _ (cellAt_recv d c (sl 0))) $$ HR
  icases HB with ⟨#HI, #Hr⟩
  icases HV with ⟨-, #Hv⟩
  iapply (Rounds.wp_signal 𝒱₀ ER (ringRd X) (c : Thread nD τ) none (dst := (up d c : Thread nD τ)) (κ := K (up d c, kBar)) (r := 0)
      (d := d) (by rw [duties_bar]; exact Finset.mem_univ _) ((amount_bar X _ 0 d).trans (by decide)) 0 O hO)
    $$ [HO Ht HY]
  · isplitr; · iexact HI
    isplitl [HO]; · iexact HO
    isplitl [Ht]; · iexact Ht
    isplitl [HY]
    · rw [payload_bar]; unfold grant; rw [nb_up]
      isplitl [HY]; · unfold slotAny; iexact HY
      iexact Hv
    iexact Hr
  iintro HO
  rw [wp_ret]; imodintro
  iapply Hk
  iexists W; iexact HO

/-- The wait for both neighbours: the first slots downstream of both directions. -/
theorem wp_meet (O : CellTallies nD τ sig ℕ) (hO : Above 1 O) (Q : PUnit → sProp 𝕄) :
    iprop(recs X K ∗ owesE (F := F) c O ∗ atPos ER (barCell c) 0 ∅ 0 ∗ cred (tallyAt (barCell c) 0 2))
      ⊢ iprop(((owesE (F := F) c O ∗ atPos ER (barCell c) 1 ∅ 0 ∗ grant (F := F) false c 0 ∗ grant (F := F) true c 0) -∗ Q ⟨⟩)
          -∗ wp frame (wpE (defs₀ (F := F)) 𝒱₀ (c : Thread nD τ) none) Set.univ (semWaitWord barS 2#32 : P F PUnit) Q) := by
  unfold owesE semWaitWord
  iintro ⟨#HR, ⟨%W, HO⟩, Ha, Hc⟩ Hk
  ihave #HB := (rec_at X K (c, kBar) _ (cellAt_bar c)) $$ HR
  ihave #Hlev := (rec_lev X K) $$ HR
  icases HB with ⟨#HI, -⟩
  iapply (Rounds.wp_wait_rest_token 𝒱₀ ER (ringRd X) (c : Thread nD τ) none (κ := K (c, kBar))
      (wpE_semWait_eq 𝒱₀ (c : Thread nD τ) none Set.univ) (Set.mem_univ _) 0 (O := O) (W := W) (R := 0) (m := 0) (T := ∅)
      (by rw [expect_bar X c]; decide)) $$ [Hc HO Ha]
  · isplitr; · iexact HI
    isplitl [Hc]; · iexact Hc
    isplitl [HO]; · iexact HO
    isplitr; · iapply (mayWait c _ 0 (by omega) O (by rw [lv_bar]; exact hO)); iexact Hlev
    iexact Ha
  iintro ⟨HO, Ha, -, Hpay⟩
  ihave Hg := (Entails.of_eq (rest_bar X c)) $$ Hpay
  rw [wp_ret]; imodintro
  iapply Hk
  isplitl [HO]; · iexists _; iexact HO
  isplitl [Ha]; · iexact Ha
  iexact Hg

/-! ## The start -/

/-- What a device starts a direction with, its two slots apart. -/
def dirSt (d : Bool) : sProp 𝕄 :=
  iprop(posn (F := F) d c 0 ∗ posn (F := F) d c 1 ∗ atPos ER (credCell d c) 0 ∅ 0 ∗ bigSep (Finset.Ico 0 6) (pack (F := F) d c)
    ∗ cred (tallyAt (recvCell d c (sl 0)) 0 N) ∗ dutyTok ER (sendCell d c (sl 0)) 0 false ∗ dutyTok ER (recvCell d (nb d c) (sl 0)) 0 false
    ∗ dutyTok ER (barCell (up d c)) 0 d)

/-- What it starts the handshake with. -/
def barSt : sProp 𝕄 := iprop(atPos ER (barCell c) 0 ∅ 0 ∗ cred (tallyAt (barCell c) 0 2))

/-- The first send of a direction. -/
theorem dir_first (d : Bool) (n : Dev nD) (hn : n = nb d c) (O O' : CellTallies nD τ sig ℕ)
    (hO : O' = O + tallyAt (recvCell d (nb d c) (sl 0)) 0 N) (Q : PUnit → sProp 𝕄) :
    iprop(recs X K ∗ (posn (F := F) d c 0 ∗ posn (F := F) d c 1 ∗ atPos ER (credCell d c) 0 ∅ 0 ∗ bigSep (Finset.Ico 0 6) (pack (F := F) d c)
        ∗ cred (tallyAt (recvCell d c (sl 0)) 0 N) ∗ dutyTok ER (sendCell d c (sl 0)) 0 false ∗ dutyTok ER (recvCell d (nb d c) (sl 0)) 0 false)
        ∗ slotAny (F := F) d c (sl 1) ∗ grant (F := F) d c 0 ∗ owns (c : Thread nD τ) (halfM d) fullShare (half d (X c)) ∗ owesE (F := F) c O')
      ⊢ iprop(((stA X d c 0 ∗ owesE (F := F) c O) -∗ Q ⟨⟩)
          -∗ wp frame (wpE (defs₀ (F := F)) 𝒱₀ (c : Thread nD τ) none) Set.univ (sendStep (F := F) d 0 n) Q) := by
  unfold stA
  rw [show srcM d 0 = halfM d from rfl, show spare (F := F) d c 0 = slotAny (F := F) d c (sl 1) from rfl, show kept X d c 0 = iprop(emp) from rfl]
  iintro ⟨#HR, ⟨Hp0, Hp1, Hac, Hpk, HcR, HtS, HtV⟩, Hs1, Hg, Hx, HO⟩ Hk
  ihave #HS0 := (rec_at X K (c, kSend d (sl 0)) _ (cellAt_send d c (sl 0))) $$ HR
  ihave #HV0 := (rec_at X K (nb d c, kRecv d (sl 0)) _ (cellAt_recv d (nb d c) (sl 0))) $$ HR
  ihave #HC := (rec_at X K (c, kCred d) _ (cellAt_cred d c)) $$ HR
  ihave #HS1 := (rec_at X K (c, kSend d (sl 1)) _ (cellAt_send d c (sl 1))) $$ HR
  ihave #HV1 := (rec_at X K (c, kRecv d (sl 1)) _ (cellAt_recv d c (sl 1))) $$ HR
  icases HS0 with ⟨#HS, #HrS⟩
  icases HV0 with ⟨#HV, -⟩
  icases HC with ⟨-, #HrC⟩
  icases HS1 with ⟨-, #HrS1⟩
  icases HV1 with ⟨-, #HrV1⟩
  iapply (wp_sendStep X c d 0 _ _ (by omega) n hn O O' hO Q) $$ [HO Hx Hg HtS HtV]
  · isplitr; · iexact HS
    isplitr; · iexact HV
    isplitl [HO]; · iexact HO
    isplitl [Hx]; · iexact Hx
    isplitl [Hg]; · iexact Hg
    isplitl [HtS]; · iexact HtS
    isplitr; · iexact HrS
    isplitl [HtV]; · iexact HtV
    iexact HrC
  iintro ⟨HO, HcS, Hx⟩
  iapply Hk
  isplitr [HO]
  · isplitl [Hp0]; · iexact Hp0
    isplitl [Hp1]; · iexact Hp1
    isplitr; · unfold marks; isplitr; · iexact HrS1
               iexact HrV1
    isplitl [Hac]; · iexact Hac
    isplitl [Hpk]; · iexact Hpk
    isplitl [HcS]; · iexact HcS
    isplitl [HcR]; · iexact HcR
    isplitl [Hx]; · iexact Hx
    isplitl [Hs1]; · iexact Hs1
    iempintro
  iexact HO

/-- Of a device whose first send is under way: the remaining share of its own half block. -/
theorem stA_half (d : Bool) :
    stA X d c 0 ⊢ iprop(owns (c : Thread nD τ) (halfM d) fullShare.right (half d (X c))
      ∗ (owns (c : Thread nD τ) (halfM d) fullShare.right (half d (X c)) -∗ stA X d c 0)) := by
  unfold stA
  rw [show srcM d 0 = halfM d from rfl, show cont X d c 0 = half d (X c) from rfl]
  iintro ⟨H1, H2, H3, H4, H5, H6, H7, H8, H9, H10⟩
  isplitl [H8]; · iexact H8
  iintro H8
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-- What a device starts from. -/
def startSt : sProp 𝕄 :=
  iprop(barSt (F := F) c ∗ dirSt (F := F) c false ∗ dirSt (F := F) c true
    ∗ (slotAny (F := F) false c (sl 0) ∗ slotAny (F := F) false c (sl 1)) ∗ (slotAny (F := F) true c (sl 0) ∗ slotAny (F := F) true c (sl 1))
    ∗ owesE (F := F) c (O₀ c) ∗ owns (c : Thread nD τ) xM fullShare (X c) ∗ owns (c : Thread nD τ) wM fullShare w
    ∗ outP c (val X w c) (fun _ => False))

/-- The handshake, the first sends, and the device's own product. -/
theorem wp_prologue (l r n0 n1 : Dev nD) (hl : l = up false c) (hr : r = up true c) (hn0 : n0 = nb false c) (hn1 : n1 = nb true c)
    (Q : PUnit → sProp 𝕄) :
    iprop(recs X K ∗ startSt X w c)
      ⊢ iprop(((atPos ER (barCell c) 1 ∅ 0 ∗ hopSt X w c 0) -∗ Q ⟨⟩)
          -∗ wp frame (wpE (defs₀ (F := F)) 𝒱₀ (c : Thread nD τ) none) Set.univ (prologue (F := F) c l r n0 n1) Q) := by
  unfold prologue startSt barSt dirSt hopSt
  rw [wp_bind, wp_bind, wp_bind, wp_bind, wp_bind]
  iintro ⟨#HR, ⟨HaB, HcB⟩, ⟨Hp0, Hq0, Ha0, Hk0, Hc0, Hs0, Hv0, Hb0⟩, ⟨Hp1, Hq1, Ha1, Hk1, Hc1, Hs1, Hv1, Hb1⟩,
    ⟨Hy0, Hz0⟩, ⟨Hy1, Hz1⟩, HO, Hx, Hw, Hout⟩ Hk
  iapply (wp_ready X c K false l hl (O₁ c + tallyAt (barCell (up true c)) 0 1) (O₀ c) rfl _) $$ [HO Hb0 Hy0]
  · isplitr; · iexact HR
    isplitl [HO]; · iexact HO
    isplitl [Hb0] <;> iassumption
  iintro HO
  iapply (wp_ready X c K true r hr (O₁ c) (O₁ c + tallyAt (barCell (up true c)) 0 1) rfl _) $$ [HO Hb1 Hy1]
  · isplitr; · iexact HR
    isplitl [HO]; · iexact HO
    isplitl [Hb1] <;> iassumption
  iintro HO
  iapply (wp_meet X c K (O₁ c) (above_O₁ c) _) $$ [HO HaB HcB]
  · isplitr; · iexact HR
    isplitl [HO]; · iexact HO
    isplitl [HaB] <;> iassumption
  iintro ⟨HO, HaB, Hg0, Hg1⟩
  ihave Hx := (x_split c fullShare (X c)) $$ Hx
  icases Hx with ⟨Hx0, Hx1⟩
  iapply (dir_first X c K false n0 hn0 (due c 1 0 0 0) (O₁ c) (due_send0 c 0 0 0 0 (by omega)) _) $$ [HO Hp0 Hq0 Ha0 Hk0 Hc0 Hs0 Hv0 Hz0 Hg0 Hx0]
  · isplitr; · iexact HR
    isplitl [Hp0 Hq0 Ha0 Hk0 Hc0 Hs0 Hv0]
    · isplitl [Hp0]; · iexact Hp0
      isplitl [Hq0]; · iexact Hq0
      isplitl [Ha0]; · iexact Ha0
      isplitl [Hk0]; · iexact Hk0
      isplitl [Hc0]; · iexact Hc0
      isplitl [Hs0] <;> iassumption
    isplitl [Hz0]; · iexact Hz0
    isplitl [Hg0]; · iexact Hg0
    isplitl [Hx0] <;> iassumption
  iintro ⟨HA0, HO⟩
  iapply (dir_first X c K true n1 hn1 (due c 1 0 1 0) (due c 1 0 0 0) (due_send1 c 1 0 0 0 (by omega)) _) $$ [HO Hp1 Hq1 Ha1 Hk1 Hc1 Hs1 Hv1 Hz1 Hg1 Hx1]
  · isplitr; · iexact HR
    isplitl [Hp1 Hq1 Ha1 Hk1 Hc1 Hs1 Hv1]
    · isplitl [Hp1]; · iexact Hp1
      isplitl [Hq1]; · iexact Hq1
      isplitl [Ha1]; · iexact Ha1
      isplitl [Hk1]; · iexact Hk1
      isplitl [Hc1]; · iexact Hc1
      isplitl [Hs1] <;> iassumption
    isplitl [Hz1]; · iexact Hz1
    isplitl [Hg1]; · iexact Hg1
    isplitl [Hx1] <;> iassumption
  iintro ⟨HA1, HO⟩
  ihave HA0 := (stA_half X c false) $$ HA0
  ihave HA1 := (stA_half X c true) $$ HA1
  icases HA0 with ⟨Hx0, HA0⟩
  icases HA1 with ⟨Hx1, HA1⟩
  ihave Hx := (x_join c fullShare.right (X c)) $$ [Hx0 Hx1]
  · isplitl [Hx0] <;> iassumption
  iapply (wp_ownStep X w c fullShare.right (fun _ => False) Q) $$ [Hx Hw Hout]
  · isplitl [Hx]; · iexact Hx
    isplitl [Hw] <;> iassumption
  iintro ⟨Hx, Hw, Hout⟩
  ihave Hx := (x_split c fullShare.right (X c)) $$ Hx
  icases Hx with ⟨Hx0, Hx1⟩
  iapply Hk
  isplitl [HaB]; · iexact HaB
  isplitl [HA0 Hx0]; · iapply HA0; iexact Hx0
  isplitl [HA1 Hx1]; · iapply HA1; iexact Hx1
  isplitl [HO]; · iexact HO
  isplitl [Hw]; · iexact Hw
  iapply (outP_mono c (val X w c) (fun r h => Or.inr (covered_zero c r h))); iexact Hout

/-! ## The end -/

/-- A direction's five semaphores at zero. -/
def zeros (d : Bool) : sProp 𝕄 :=
  iprop(semVal (sendCell d c 0) 0 ∗ semVal (sendCell d c 1) 0 ∗ semVal (recvCell d c 0) 0 ∗ semVal (recvCell d c 1) 0 ∗ semVal (credCell d c) 0)

/-- A semaphore whose rounds are over is at zero. -/
theorem close_at (p : Dev nD × Fin 11) (g : GSem nD τ sig) (h : cellAt p = g) (R : ℕ) (hR : ∀ r, R ≤ r → (ringRd X).duties g r = ∅) :
    iprop(recs X K ∗ atPos ER g R ∅ 0) ⊢ iprop(|={Set.univ}=> (semVal g 0 : sProp 𝕄)) := by
  iintro ⟨#HR, Ha⟩
  ihave #HI := (rec_at X K p g h) $$ HR
  icases HI with ⟨#HI, -⟩
  iapply (Rounds.cell_close ER (ringRd X) (Set.mem_univ (K p)) (fun h => h) (R := R) hR)
  isplitr; · iexact HI
  iexact Ha

/-- After the last hop a direction's semaphores are at zero. -/
theorem dir_close (d : Bool) :
    iprop(recs X K ∗ posn (F := F) d c 7 ∗ posn (F := F) d c 8 ∗ atPos ER (credCell d c) 6 ∅ 0)
      ⊢ iprop(|={Set.univ}=> zeros (F := F) c d) := by
  unfold posn zeros
  iintro ⟨#HR, ⟨Hs1, Hv1⟩, ⟨Hs0, Hv0⟩, Hc⟩
  imod (close_at X K (c, kSend d 0) _ (cellAt_send d c 0) 4 (fun r hr => duties_send_later X c d 0 r (by omega))) $$ [Hs0] with Hs0
  · isplitr; · iexact HR
    iexact Hs0
  imod (close_at X K (c, kSend d 1) _ (cellAt_send d c 1) 3 (fun r hr => duties_send_later X c d 1 r (by show 7 ≤ 2 * r + 1; omega))) $$ [Hs1] with Hs1
  · isplitr; · iexact HR
    iexact Hs1
  imod (close_at X K (c, kRecv d 0) _ (cellAt_recv d c 0) 4 (fun r hr => duties_recv_later X c d 0 r (by omega))) $$ [Hv0] with Hv0
  · isplitr; · iexact HR
    iexact Hv0
  imod (close_at X K (c, kRecv d 1) _ (cellAt_recv d c 1) 3 (fun r hr => duties_recv_later X c d 1 r (by show 7 ≤ 2 * r + 1; omega))) $$ [Hv1] with Hv1
  · isplitr; · iexact HR
    iexact Hv1
  imod (close_at X K (c, kCred d) _ (cellAt_cred d c) 6 (fun r hr => duties_cred_later X c d r hr)) $$ [Hc] with Hc
  · isplitr; · iexact HR
    iexact Hc
  imodintro
  isplitl [Hs0]; · iexact Hs0
  isplitl [Hs1]; · iexact Hs1
  isplitl [Hv0]; · iexact Hv0
  isplitl [Hv1] <;> iassumption

/-- What a device ends with. -/
def endSt : sProp 𝕄 :=
  iprop(zeros (F := F) c false ∗ zeros (F := F) c true ∗ semVal (barCell c) 0
    ∗ (slotAny (F := F) false c 0 ∗ slotAny (F := F) false c 1) ∗ (slotAny (F := F) true c 0 ∗ slotAny (F := F) true c 1)
    ∗ owesE (F := F) c 0 ∗ owns (c : Thread nD τ) xM fullShare (X c) ∗ owns (c : Thread nD τ) wM fullShare w
    ∗ owns (c : Thread nD τ) oM fullShare (val X w c))

/-- A direction after the last hop: its semaphores closed, both its slots, and its half of the device's block. -/
theorem dir_end (d : Bool) :
    iprop(recs X K ∗ stB X d c 6)
      ⊢ iprop(|={Set.univ}=> (zeros (F := F) c d ∗ (slotAny (F := F) d c 0 ∗ slotAny (F := F) d c 1) ∗ owns (c : Thread nD τ) (halfM d) fullShare (half d (X c)))) := by
  unfold stB
  rw [show kept X d c (6 + 1) = owns (c : Thread nD τ) (halfM d) fullShare (half d (X c)) from rfl]
  iintro ⟨#HR, Hp7, Hp8, -, -, Ha, -, Hs, -, Hf, Hk⟩
  imod (dir_close X c K d) $$ [Hp7 Hp8 Ha] with Hz
  · isplitr; · iexact HR
    isplitl [Hp7]; · iexact Hp7
    isplitl [Hp8] <;> iassumption
  imodintro
  isplitl [Hz]; · iexact Hz
  isplitl [Hs Hf]
  · isplitl [Hs]; · iapply (slotAny_of d c (sl 6) (cont X d c (6 + 1))); iexact Hs
    iexact Hf
  iexact Hk

/-- All rows stored: the result. -/
theorem out_all : outP c (val X w c) (covered c 7) ⊢ owns (c : Thread nD τ) oM fullShare (val X w c) := by
  unfold outP owns
  iintro ⟨%f, %hf, H⟩
  iexists f
  isplitr
  · ipureintro
    exact funext fun y => hf y (covered_all c _ (y (0 : Fin 2)).isLt)
  iexact H

/-- The last waits' leftovers closed: every semaphore at zero, the buffers and the arguments back whole. -/
theorem close_all : iprop(recs X K ∗ atPos ER (barCell c) 1 ∅ 0 ∗ lastSt X w c) ⊢ iprop(|={Set.univ}=> endSt X w c) := by
  unfold lastSt endSt
  iintro ⟨#HR, HaB, H0, H1, HO, Hw, Hout⟩
  imod (dir_end X c K false) $$ [H0] with ⟨Hz0, Hb0, Hx0⟩
  · isplitr; · iexact HR
    iexact H0
  imod (dir_end X c K true) $$ [H1] with ⟨Hz1, Hb1, Hx1⟩
  · isplitr; · iexact HR
    iexact H1
  imod (close_at X K (c, kBar) _ (cellAt_bar c) 1 (fun r hr => duties_bar_later X c r hr)) $$ [HaB] with HzB
  · isplitr; · iexact HR
    iexact HaB
  imodintro
  isplitl [Hz0]; · iexact Hz0
  isplitl [Hz1]; · iexact Hz1
  isplitl [HzB]; · iexact HzB
  isplitl [Hb0]; · iexact Hb0
  isplitl [Hb1]; · iexact Hb1
  isplitl [HO]; · iexact HO
  isplitl [Hx0 Hx1]
  · iapply (x_join c fullShare (X c)); isplitl [Hx0] <;> iassumption
  isplitl [Hw]; · iexact Hw
  iapply (out_all X w c); iexact Hout

/-! ## The whole body -/

/-- An update may come after a program. -/
theorem late_fupd (p : P F PUnit) (R : sProp 𝕄) (Q : PUnit → sProp 𝕄)
    (h : R ⊢ wp frame (wpE (defs₀ (F := F)) 𝒱₀ (c : Thread nD τ) none) Set.univ p (fun a => iprop(|={Set.univ}=> Q a))) :
    R ⊢ wp frame (wpE (defs₀ (F := F)) 𝒱₀ (c : Thread nD τ) none) Set.univ p Q :=
  h.trans (Idealize.SL.Sem.wp_fupd frame _ _ p Q)

/-- The body, run at device `c` from what it starts with to what it ends with. -/
theorem wp_body (Q : PUnit → sProp 𝕄) :
    iprop(recs X K ∗ startSt X w c ∗ (endSt X w c -∗ Q ⟨⟩))
      ⊢ wp frame (wpE (defs₀ (F := F)) 𝒱₀ (c : Thread nD τ) none) Set.univ (bodyProg (F := F)) Q := by
  refine late_fupd c _ _ Q ?_
  unfold bodyProg
  simp only [Prog.lift, Prog.bind_op, Prog.bind_ret, wp_deviceId]
  unfold bodyAt
  rw [wp_bind, wp_bind, wp_bind, wp_bind, wp_bind, wp_bind, wp_bind]
  iintro ⟨#HR, Hst, Hk⟩
  obtain ⟨a1, a2, a3, a4⟩ := devs_start c
  iapply (wp_prologue X w c K _ _ _ _ a1 a2 a3 a4 _) $$ [Hst]
  · isplitr; · iexact HR
    iexact Hst
  iintro ⟨HaB, Hst⟩
  obtain ⟨a1, a2, a3, a4⟩ := devs_hop0 c
  iapply (wp_hop X w c K 0 (by decide) _ _ _ _ a1 a2 a3 a4 _) $$ [Hst]
  · isplitr; · iexact HR
    iexact Hst
  iintro Hst
  obtain ⟨a1, a2, a3, a4⟩ := devs_hop1 c
  iapply (wp_hop X w c K 1 (by decide) _ _ _ _ a1 a2 a3 a4 _) $$ [Hst]
  · isplitr; · iexact HR
    iexact Hst
  iintro Hst
  obtain ⟨a1, a2, a3, a4⟩ := devs_hop2 c
  iapply (wp_hop X w c K 2 (by decide) _ _ _ _ a1 a2 a3 a4 _) $$ [Hst]
  · isplitr; · iexact HR
    iexact Hst
  iintro Hst
  obtain ⟨a1, a2, a3, a4⟩ := devs_hop3 c
  iapply (wp_hop X w c K 3 (by decide) _ _ _ _ a1 a2 a3 a4 _) $$ [Hst]
  · isplitr; · iexact HR
    iexact Hst
  iintro Hst
  obtain ⟨a1, a2, a3, a4⟩ := devs_hop4 c
  iapply (wp_hop X w c K 4 (by decide) _ _ _ _ a1 a2 a3 a4 _) $$ [Hst]
  · isplitr; · iexact HR
    iexact Hst
  iintro Hst
  obtain ⟨a1, a2, a3, a4⟩ := devs_hop5 c
  iapply (wp_hop X w c K 5 (by decide) _ _ _ _ a1 a2 a3 a4 _) $$ [Hst]
  · isplitr; · iexact HR
    iexact Hst
  iintro Hst
  iapply (wp_lastHop X w c K _) $$ [Hst]
  · isplitr; · iexact HR
    iexact Hst
  iintro Hst
  imod (close_all X w c K) $$ [HaB Hst] with Hend
  · isplitr; · iexact HR
    isplitl [HaB] <;> iassumption
  imodintro
  iapply Hk; iexact Hend

end Cert.KernelIdeal.Ring

end
-- ==== Proof.KernelIdeal.Deal.lean ====
/-
# Dealing the exchange's tokens, credits and positions

Every token is minted with the semaphore it pays; it goes to the device that pays it: its own sends stay, a landing's goes
to the device it comes from, a credit's and a handshake's to the device downstream, which says that its slot is free.
-/
module

public import proofs.«01_k».proof.Proof.KernelIdeal.Body

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Splitting by hops -/

/-- The seven hops: the first, and the six that follow. -/
theorem hops_split (Φ : ℕ → sProp 𝕄) :
    bigSep (Finset.Ico 0 7) Φ = iprop(Φ 0 ∗ bigSep (Finset.Ico 0 6) (fun j => Φ (j + 1))) := by
  rw [bigSep_eq_bigSepL_of_eq [0, 1, 2, 3, 4, 5, 6] (by decide) (by decide), bigSep_eq_bigSepL_of_eq [0, 1, 2, 3, 4, 5] (by decide) (by decide)]
  rfl
/-- The same, the hops numbered by a finite type. -/
theorem hops_split' (Φ : ℕ → sProp 𝕄) :
    bigSep Finset.univ (fun h : Fin 7 => Φ h.val) = iprop(Φ 0 ∗ bigSep (Finset.Ico 0 6) (fun j => Φ (j + 1))) := by
  rw [bigSep_univ_eq_bigSepL [0, 1, 2, 3, 4, 5, 6] (by decide) (by decide), bigSep_eq_bigSepL_of_eq [0, 1, 2, 3, 4, 5] (by decide) (by decide)]
  rfl
/-- Three conjuncts, written out. -/
theorem bigSep_three (Φ : Fin 3 → sProp 𝕄) : bigSep Finset.univ Φ = iprop(Φ 0 ∗ Φ 1 ∗ Φ 2) :=
  bigSep_univ_eq_bigSepL [0, 1, 2] (by decide) (by decide) Φ

/-! ## Tokens -/

/-- The third token of a hop: the handshake's for the first, the credit's of the hop before for the others. -/
def leave (d : Bool) (h : ℕ) : SemLoc sig × ℕ × Bool :=
  match h with
  | 0 => (.reg barS, 0, d)
  | j + 1 => (.reg (credS d), j, false)

/-- A hop's three tokens on a device's own semaphores: its send's, its landing's, and the third. -/
def tokS (x : Bool × Fin 7 × Fin 3) : SemLoc sig × ℕ × Bool :=
  match x.2.2 with
  | 0 => (.dma (sendS x.1 (sl x.2.1.val)), x.2.1.val / 2, false)
  | 1 => (.dma (recvS x.1 (sl x.2.1.val)), x.2.1.val / 2, false)
  | 2 => leave x.1 x.2.1.val

/-- A token's semaphore and round name its direction, hop and kind. -/
theorem tokS_injective : Function.Injective tokS := by
  have h : ∀ x y : Bool × Fin 7 × Fin 3, tokS x = tokS y → x = y := by decide +kernel
  exact fun x y => h x y

/-- The tokens minted: device, direction, hop, and which of the three. -/
abbrev Tk : Type := Dev nD × (Bool × Fin 7 × Fin 3)

/-- Which payment of which semaphore of the mesh a token stands for. -/
def tokOf (x : Tk) : GSem nD τ sig × ℕ × Bool := (((x.1 : Thread nD τ), (tokS x.2).1), (tokS x.2).2)

/-- No two tokens are for the same payment. -/
theorem tokOf_injective : Function.Injective tokOf := by
  rintro ⟨c, x⟩ ⟨c', x'⟩ h
  have h1 : c = c' := congrArg (fun y : GSem nD τ sig × ℕ × Bool => y.1.1.1) h
  have h2 : tokS x = tokS x' := congrArg (fun y : GSem nD τ sig × ℕ × Bool => (y.1.2, y.2)) h
  rw [h1, tokS_injective h2]

/-- The token itself. -/
def tokP (x : Tk) : sProp 𝕄 := dutyTok ER (tokOf x).1 (tokOf x).2.1 (tokOf x).2.2

/-- The device whose semaphore a device pays with a token of its own, and back. -/
def paidOn (c : Dev nD) (d : Bool) (k : Fin 3) : Dev nD := match k with | 0 => c | 1 => nb d c | 2 => up d c
/-- Who pays a token for a semaphore of `c`: the device itself, the one upstream, or the one downstream. -/
def paidBy (c : Dev nD) (d : Bool) (k : Fin 3) : Dev nD := match k with | 0 => c | 1 => up d c | 2 => nb d c

/-- The two are inverse, -/
theorem paidBy_on (c : Dev nD) (d : Bool) (k : Fin 3) : paidBy (paidOn c d k) d k = c := by revert c d k; decide
/-- on either side. -/
theorem paidOn_by (c : Dev nD) (d : Bool) (k : Fin 3) : paidOn (paidBy c d k) d k = c := by revert c d k; decide

/-- The dealing: a permutation of the tokens. -/
def deal : Tk ≃ Tk where
  toFun x := (paidOn x.1 x.2.1 x.2.2.2, x.2)
  invFun x := (paidBy x.1 x.2.1 x.2.2.2, x.2)
  left_inv x := by simp only [paidBy_on]
  right_inv x := by simp only [paidOn_by]

section Dir
variable (d : Bool) (c : Dev nD)

/-- The tokens device `c` pays with at a hop. -/
def hopToks (h : ℕ) : sProp 𝕄 :=
  iprop(dutyTok ER (sendCell d c (sl h)) (h / 2) false ∗ dutyTok ER (recvCell d (nb d c) (sl h)) (h / 2) false
    ∗ dutyTok ER ((up d c : Thread nD τ), (leave d h).1) (leave d h).2.1 (leave d h).2.2)

/-- Those of a direction. -/
def dirToks : sProp 𝕄 := iprop(hopToks (F := F) d c 0 ∗ bigSep (Finset.Ico 0 6) (fun j => hopToks (F := F) d c (j + 1)))

/-- The tokens of one direction a device pays with, hop by hop. -/
theorem dir_toks : bigSep Finset.univ (fun x : Fin 7 × Fin 3 => tokP (F := F) (deal (c, d, x))) = dirToks (F := F) d c := by
  rw [bigSep_univ_prod]
  exact (bigSep_congr fun h _ => bigSep_three _).trans (hops_split' (fun h => hopToks (F := F) d c h))

end Dir

/-- Every device has the tokens it pays with. -/
theorem toks_dealt : (bigSep Finset.univ (tokP (F := F)) : sProp 𝕄)
    = bigSep Finset.univ fun c : Dev nD => iprop(dirToks (F := F) false c ∗ dirToks (F := F) true c) := by
  rw [bigSep_univ_equiv deal, bigSep_univ_prod]
  refine bigSep_congr fun c _ => ?_
  rw [bigSep_univ_prod, bigSep_bool]
  rw [dir_toks false c, dir_toks true c]

/-! ## Credits -/

/-- The credits device `c` waits with in a direction. -/
def dirCreds (d : Bool) (c : Dev nD) : sProp 𝕄 :=
  iprop(cred (tallyAt (recvCell d c (sl 0)) 0 N)
    ∗ bigSep (Finset.Ico 0 6) (fun j => iprop(cred (tallyAt (credCell d c) j 1) ∗ cred (tallyAt (recvCell d c (sl (j + 1))) (j + 1) N))))

/-- What the launch owes on a credit semaphore is what its device is credited with, -/
theorem cred_creds (d : Bool) (c : Dev nD) :
    (bigSep (Finset.Ico 0 6) (fun j => Pipeline.launchCred (fun c' => tallyAt (credCell d (up d c')) j 1) c) : sProp 𝕄)
      ⊢ bigSep (Finset.Ico 0 6) (fun j => cred (tallyAt (credCell d c) j 1)) :=
  bigSep_mono fun j _ => Pipeline.launchCred_tallyAt (.reg (credS d)) (up d) (nb d) (up_nb d) (nb_up d) j 1 c
/-- and the same on the receive semaphores. -/
theorem recv_creds (d : Bool) (c : Dev nD) :
    (bigSep (Finset.Ico 0 6) (fun j => Pipeline.launchCred (fun c' => tallyAt (recvCell d (nb d c') (sl (j + 1))) (j + 1) N) c) : sProp 𝕄)
      ⊢ bigSep (Finset.Ico 0 6) (fun j => cred (tallyAt (recvCell d c (sl (j + 1))) (j + 1) N)) :=
  bigSep_mono fun j _ => Pipeline.launchCred_tallyAt (.dma (recvS d (sl (j + 1)))) (nb d) (up d) (nb_up d) (up_nb d) (j + 1) N c

/-- What the other devices owe device `c` in a direction is the credit it waits with. -/
theorem dir_creds (d : Bool) (c : Dev nD) :
    (Pipeline.launchCred (fun c' => owedDir d c' 0 0) c : sProp 𝕄) ⊢ dirCreds (F := F) d c := by
  unfold owedDir owedRecv owedCred dirCreds
  rw [Pipeline.launchCred_add, Pipeline.launchCred_sum, Pipeline.launchCred_sum, hops_split, bigSep_sep']
  iintro ⟨⟨H0, HR⟩, HC⟩
  isplitl [H0]
  · iapply (Pipeline.launchCred_tallyAt (.dma (recvS d (sl 0))) (nb d) (up d) (nb_up d) (up_nb d) 0 N c); iexact H0
  isplitl [HC]
  · iapply (cred_creds d c); iexact HC
  iapply (recv_creds d c); iexact HR

/-- All the credit of a device. -/
theorem creds (c : Dev nD) :
    (Pipeline.launchCred O₀ c : sProp 𝕄) ⊢ iprop(cred (tallyAt (barCell c) 0 2) ∗ dirCreds (F := F) false c ∗ dirCreds (F := F) true c) := by
  have e : (O₀ : Dev nD → CellTallies nD τ sig ℕ)
      = fun c' => ((owedDir false c' 0 0 + owedDir true c' 0 0) + tallyAt (barCell (nb false c')) 0 1) + tallyAt (barCell (nb true c')) 0 1 := rfl
  rw [e, Pipeline.launchCred_add, Pipeline.launchCred_add, Pipeline.launchCred_add]
  iintro ⟨⟨⟨H0, H1⟩, HA⟩, HB⟩
  ihave HA := (Pipeline.launchCred_tallyAt (.reg barS) (nb false) (up false) (nb_up false) (up_nb false) 0 1 c) $$ HA
  ihave HB := (Pipeline.launchCred_tallyAt (.reg barS) (nb true) (up true) (nb_up true) (up_nb true) 0 1 c) $$ HB
  isplitl [HA HB]
  · rw [show (tallyAt (barCell c) 0 2 : CellTallies nD τ sig ℕ) = tallyAt (barCell c) 0 1 + tallyAt (barCell c) 0 1 from (tallyAt_add _ _ 1 1).symm]
    iapply (cred_add _ _).2
    isplitl [HA] <;> iassumption
  isplitl [H0]
  · iapply (dir_creds false c); iexact H0
  iapply (dir_creds true c); iexact H1

/-! ## Positions -/

/-- Where device `c` stands on a direction's semaphores. -/
def dirPos (d : Bool) (c : Dev nD) : sProp 𝕄 :=
  iprop(posn (F := F) d c 0 ∗ posn (F := F) d c 1 ∗ atPos ER (credCell d c) 0 ∅ 0)

/-- Something of each of a device's eleven semaphores, by direction. -/
theorem eleven (Φ : GSem nD τ sig → sProp 𝕄) (c : Dev nD) :
    (bigSep Finset.univ fun k : Fin 11 => Φ (cellAt (c, k)))
      = iprop(Φ (sendCell false c 0) ∗ Φ (sendCell false c 1) ∗ Φ (recvCell false c 0) ∗ Φ (recvCell false c 1)
        ∗ Φ (sendCell true c 0) ∗ Φ (sendCell true c 1) ∗ Φ (recvCell true c 0) ∗ Φ (recvCell true c 1)
        ∗ Φ (credCell false c) ∗ Φ (credCell true c) ∗ Φ (barCell c)) :=
  bigSep_univ_eq_bigSepL [0, 1, 2, 3, 4, 5, 6, 7, 8, 9, 10] (by decide) (by decide) _

/-- A device's positions, sorted by direction. -/
theorem positions (c : Dev nD) : (bigSep Finset.univ fun k : Fin 11 => (atPos ER (cellAt (c, k)) 0 ∅ 0 : sProp 𝕄))
    ⊢ iprop(atPos ER (barCell c) 0 ∅ 0 ∗ dirPos (F := F) false c ∗ dirPos (F := F) true c) := by
  rw [eleven (fun g => (atPos ER g 0 ∅ 0 : sProp 𝕄)) c]
  unfold dirPos posn
  iintro ⟨A0, A1, A2, A3, B0, B1, B2, B3, A4, B4, H⟩
  isplitl [H]; · iexact H
  isplitl [A0 A1 A2 A3 A4]
  · isplitl [A0 A2]
    · isplitl [A0]; · iexact A0
      iexact A2
    isplitl [A1 A3]
    · isplitl [A1]; · iexact A1
      iexact A3
    iexact A4
  isplitl [B0 B2]
  · isplitl [B0]; · iexact B0
    iexact B2
  isplitl [B1 B3]
  · isplitl [B1]; · iexact B1
    iexact B3
  iexact B4

/-! ## A direction's start -/

/-- The tokens and the credits that passing a block on takes. -/
theorem pack_mk (d : Bool) (c : Dev nD) (j : ℕ) :
    iprop(hopToks (F := F) d c (j + 1) ∗ (cred (tallyAt (credCell d c) j 1) ∗ cred (tallyAt (recvCell d c (sl (j + 1))) (j + 1) N)))
      ⊢ pack (F := F) d c j := by
  unfold pack hopToks
  iintro ⟨⟨Hs, Hv, Hb⟩, Hc, Hr⟩
  isplitl [Hc]; · iexact Hc
  isplitl [Hb]; · iexact Hb
  isplitl [Hs]; · iexact Hs
  isplitl [Hv] <;> iassumption

/-- Tokens and credits paired hop by hop. -/
theorem packs (d : Bool) (c : Dev nD) :
    iprop(bigSep (Finset.Ico 0 6) (fun j => hopToks (F := F) d c (j + 1))
        ∗ bigSep (Finset.Ico 0 6) (fun j => iprop(cred (tallyAt (credCell d c) j 1) ∗ cred (tallyAt (recvCell d c (sl (j + 1))) (j + 1) N))))
      ⊢ (bigSep (Finset.Ico 0 6) (pack (F := F) d c) : sProp 𝕄) := by
  rw [← bigSep_sep']
  exact bigSep_mono fun j _ => pack_mk d c j

/-- Positions, tokens and credits make what a device starts a direction with. -/
theorem dir_start (d : Bool) (c : Dev nD) :
    iprop(dirPos (F := F) d c ∗ dirToks (F := F) d c ∗ dirCreds (F := F) d c) ⊢ dirSt (F := F) c d := by
  unfold dirPos dirToks dirCreds dirSt
  iintro ⟨⟨H0, H1, Ha⟩, ⟨Ht, HT⟩, Hc, HC⟩
  ihave Ht := (show hopToks (F := F) d c 0 ⊢ iprop(dutyTok ER (sendCell d c (sl 0)) 0 false ∗ dutyTok ER (recvCell d (nb d c) (sl 0)) 0 false
    ∗ dutyTok ER (barCell (up d c)) 0 d) from Entails.of_eq rfl) $$ Ht
  icases Ht with ⟨Hs, Hv, Hb⟩
  isplitl [H0]; · iexact H0
  isplitl [H1]; · iexact H1
  isplitl [Ha]; · iexact Ha
  isplitl [HT HC]
  · iapply (packs d c)
    isplitl [HT] <;> iassumption
  isplitl [Hc]; · iexact Hc
  isplitl [Hs]; · iexact Hs
  isplitl [Hv]; · iexact Hv
  iexact Hb

end Cert.KernelIdeal.Ring

end
-- ==== Proof.KernelIdeal.Launch.lean ====
/-
# The launch

The body on every device, the exchange's semaphores dealt to all devices at once, and the run of the whole program: every
device ends with `val` of all blocks of `x` and its own block of `w` in its result, its arguments as they were, and every
semaphore at zero.
-/
module

public import proofs.«01_k».proof.Proof.KernelIdeal.Deal
public import Idealize.ShloMosaic.Lib.Pipeline.CollectiveSegs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## What is staged -/

/-- The block of `x` staged on a device. -/
def xAt (c : Dev nD) : Vec F S512x4096 .f32 :=
  (win0_0.blk (0 : Fin 1)).view.read (Elt F) (m ((c : Thread nD τ).loc main_arg0))
/-- The block of `w` staged on a device. -/
def wAt (c : Dev nD) : Vec F S4096x1024 .f32 :=
  (win0_1.blk (0 : Fin 1)).view.read (Elt F) (m ((c : Thread nD τ).loc main_arg1))

/-- What a device's result holds at the end. -/
def outAt (c : Dev nD) : Vec F S4096x1024 .f32 := val (xAt m) (wAt m c) c

/-- The exchange's state a device's body starts from. -/
def start (c : Dev nD) : sProp 𝕄 :=
  iprop((∃ K, recs (xAt m) K) ∗ barSt (F := F) c ∗ dirSt (F := F) c false ∗ dirSt (F := F) c true)

/-- Before the body: that, and the landing buffers. -/
def Φ₀ (c : Dev nD) : sProp 𝕄 :=
  iprop(start m c ∗ (slotAny (F := F) false c 0 ∗ slotAny (F := F) false c 1) ∗ (slotAny (F := F) true c 0 ∗ slotAny (F := F) true c 1))
/-- After it: the semaphores at zero, and the landing buffers. -/
def Φ₁ (c : Dev nD) : sProp 𝕄 :=
  iprop((zeros (F := F) c false ∗ zeros (F := F) c true ∗ semVal (barCell c) 0)
    ∗ (slotAny (F := F) false c 0 ∗ slotAny (F := F) false c 1) ∗ (slotAny (F := F) true c 0 ∗ slotAny (F := F) true c 1))

/-- The data of the launch's one point. -/
def dats (_ : Fin 1) (c : Dev nD) : Dat τ (Elt F) ℕ ℕ UU ℕ cfg0 c where
  A w := m ((cfg0.win w).arr.view.loc (c : Thread nD τ))
  after w _ := match w with
    | ⟨0, _⟩ => xAt m c
    | ⟨1, _⟩ => wAt m c
    | ⟨2, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-! ## The body's obligation -/

/-- The body finds `x` staged, -/
theorem before_x (c : Dev nD) (d) : (dats m 0 c).before (0 : Fin 3) t0_0 d = xAt m c := by
  unfold Dat.before; rw [if_pos (fetch0_0 t0_0)]; rfl
/-- and `w`. -/
theorem before_w (c : Dev nD) (d) : (dats m 0 c).before (1 : Fin 3) t0_0 d = wAt m c := by
  unfold Dat.before; rw [if_pos (fetch0_1 t0_0)]; rfl

/-- Before the body the result is at any contents: no row of it is right yet. -/
theorem out_start (c : Dev nD) (V Y : Vec F S4096x1024 .f32) :
    owns (c : Thread nD τ) oM fullShare Y ⊢ outP c V (fun _ => False) := by
  unfold owns outP
  iintro ⟨%f, -, H⟩
  iexists f
  isplitr; · ipureintro; exact fun y h => h.elim
  iexact H

/-- What the body starts from, window by window, -/
def bodyPre (c : Dev nD) : sProp 𝕄 :=
  iprop(Φ₀ m c ∗ (dats m 0 c).owesAt 0 t0_0.castSucc
    ∗ ((∃ d, owns (c : Thread nD τ) xM fullShare ((dats m 0 c).before (0 : Fin 3) t0_0 d))
      ∗ (∃ d, owns (c : Thread nD τ) wM fullShare ((dats m 0 c).before (1 : Fin 3) t0_0 d))
      ∗ (∃ d, owns (c : Thread nD τ) oM fullShare ((dats m 0 c).before (2 : Fin 3) t0_0 d))))
/-- and what it ends with. -/
def bodyPost (c : Dev nD) : sProp 𝕄 :=
  iprop(Φ₁ (F := F) c ∗ (dats m 0 c).owesAt 0 t0_0.succ
    ∗ (owns (c : Thread nD τ) xM fullShare (xAt m c) ∗ owns (c : Thread nD τ) wM fullShare (wAt m c)
      ∗ owns (c : Thread nD τ) oM fullShare (outAt m c)))

/-- The body takes the one to the other. -/
theorem sound_body (c : Dev nD) :
    bodyPre m c ⊢ wp frame (wpE (defs₀ (F := F)) 𝒱₀ (c : Thread nD τ) none) Set.univ (bodyProg (F := F)) (fun _ => bodyPost m c) := by
  unfold bodyPre bodyPost Φ₀ Φ₁ start Dat.owesAt Pipeline.owesWithin
  rw [show (dats m 0 c).owed t0_0.castSucc = O₀ c from rfl, show (dats m 0 c).owed t0_0.succ = 0 from rfl]
  iintro ⟨⟨⟨⟨%K, #HR⟩, HB, H0, H1⟩, Hs0, Hs1⟩, ⟨%W, -, HO⟩, ⟨%d0, Hx⟩, ⟨%d1, Hw⟩, ⟨%d2, Hout⟩⟩
  rw [before_x, before_w]
  iapply (wp_body (xAt m) (wAt m c) c K)
  unfold startSt endSt owesE outAt
  isplitr; · iexact HR
  isplitl [HB H0 H1 Hs0 Hs1 HO Hx Hw Hout]
  · isplitl [HB]; · iexact HB
    isplitl [H0]; · iexact H0
    isplitl [H1]; · iexact H1
    isplitl [Hs0]; · iexact Hs0
    isplitl [Hs1]; · iexact Hs1
    isplitl [HO]; · iexists W; iexact HO
    isplitl [Hx]; · iexact Hx
    isplitl [Hw]; · iexact Hw
    iapply (out_start c _ _); iexact Hout
  iintro ⟨Z0, Z1, ZB, Hs0, Hs1, ⟨%W', HO⟩, Hx, Hw, Hout⟩
  isplitl [Z0 Z1 ZB Hs0 Hs1]
  · isplitl [Z0 Z1 ZB]
    · isplitl [Z0]; · iexact Z0
      isplitl [Z1] <;> iassumption
    isplitl [Hs0] <;> iassumption
  isplitl [HO]
  · iexists W'
    isplitr; · ipureintro; exact fun _ _ => Or.inl trivial
    iexact HO
  isplitl [Hx]; · iexact Hx
  isplitl [Hw] <;> iassumption

/-- The three windows, written out. -/
theorem bigSep_win (Φ : Fin cfg0.W → sProp 𝕄) : bigSep Finset.univ Φ = iprop(Φ (0 : Fin 3) ∗ Φ (1 : Fin 3) ∗ Φ (2 : Fin 3)) := bigSep_W0 Φ

set_option maxRecDepth 8000 in
/-- The launch's obligation about the body. -/
theorem body_obligation (c : Dev nD) : BodyObligation (dats (F := F) m 0 c) (defs₀ (F := F)) 𝒱₀ 0 Set.univ := fun t => by
  rw [show t = t0_0 from fin_N0 t, bigSep_win, bigSep_win]
  exact sound_body m c

/-! ## The semaphores and tokens of the launch -/

/-- The kernel's own semaphores: all but the barrier. -/
abbrev osem (k : Fin 10) : SemLoc sig := csem k.castSucc

/-- They are the kernel's scoped semaphores, each once. -/
theorem ownSemFacts : Pipeline.OwnSemFacts cfg0.spec osem := by decide

/-- Every window is held whole. -/
theorem share_eq (c : Dev nD) (w : Fin cfg0.W) : (dats m 0 c).share w = fullShare := by unfold Dat.share; split <;> rfl

/-- The eleven semaphores are distinct, -/
theorem csem_injective : Function.Injective csem := by
  have h : ∀ x y : Fin 11, csem x = csem y → x = y := by decide +kernel
  exact fun x y => h x y
/-- on distinct devices too. -/
theorem cellAt_injective : Function.Injective (cellAt : Dev nD × Fin 11 → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-- The semaphores of the exchange. -/
def ringCells : Finset (GSem nD τ sig) := Finset.univ.map ⟨cellAt, cellAt_injective⟩
/-- Its tokens. -/
def ringToks : Finset (GSem nD τ sig × ℕ × Bool) := Finset.univ.map ⟨tokOf, tokOf_injective⟩

/-- The ghost state at launch. -/
def u₀ : UU := (initOf (Pipeline.cells cfgs cellOf_inj) (Pipeline.launchToks cfgs cellOf_inj), initOf ringCells ringToks)

/-- What it gives each device: its semaphores' rounds, its positions, and its semaphores' tokens. -/
def G (c : Dev nD) : sProp 𝕄 :=
  iprop((bigSep Finset.univ fun k : Fin 11 => roundState ER (ringRd (xAt m)) (cellAt (c, k)) 0)
    ∗ (bigSep Finset.univ fun k : Fin 11 => atPos ER (cellAt (c, k)) 0 ∅ 0)
    ∗ (bigSep Finset.univ fun k : Fin 11 => reached ER (cellAt (c, k)) 0)
    ∗ (bigSep Finset.univ fun x : Bool × Fin 7 × Fin 3 => tokP (c, x)))

/-- What every device knows of the semaphores, the levels apart. -/
def recs₀ (K : Dev nD × Fin 11 → ℕ) : sProp 𝕄 :=
  bigSep Finset.univ fun p : Dev nD × Fin 11 => iprop(cellInv ER (ringRd (xAt m)) (K p) (cellAt p) ∗ reached ER (cellAt p) 0)
/-- It can be known by everyone. -/
instance recs₀_persistent (K : Dev nD × Fin 11 → ℕ) : BI.Persistent (recs₀ m K) := by unfold recs₀; infer_instance

/-- A device's positions, and the tokens it pays with. -/
def linear (c : Dev nD) : sProp 𝕄 :=
  iprop((bigSep Finset.univ fun k : Fin 11 => atPos ER (cellAt (c, k)) 0 ∅ 0) ∗ dirToks (F := F) false c ∗ dirToks (F := F) true c)

/-- What a device has once the tokens are dealt. -/
def G' (c : Dev nD) : sProp 𝕄 := iprop((∃ K, recs₀ m K) ∗ linear (F := F) c)

/-- The ghost state gives every device its share. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 11 => Φ (cellAt (c, k)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun x : Bool × Fin 7 × Fin 3 => tokP (c, x) := by
    unfold ringToks; rw [bigSep_map, bigSep_univ_prod]; rfl
  iintro HX
  imod (Rounds.fund ER (ringRd (xAt m)) ringCells ringToks) $$ HX with ⟨Hst, Hr, Hat, Htok⟩
  imodintro
  ihave Hst := (Entails.of_eq (hX fun g => roundState ER (ringRd (xAt m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-- The kernel's own semaphores, written out. -/
theorem own_ten (c : Dev nD) : (Pipeline.ownSems0 (Ix := ℕ) (Name := ℕ) (U := UU) (Lvl := ℕ) (Val := Elt F) (τ := τ) osem c : sProp 𝕄)
    = iprop(semVal (sendCell false c 0) 0 ∗ semVal (sendCell false c 1) 0 ∗ semVal (recvCell false c 0) 0 ∗ semVal (recvCell false c 1) 0
        ∗ semVal (sendCell true c 0) 0 ∗ semVal (sendCell true c 1) 0 ∗ semVal (recvCell true c 0) 0 ∗ semVal (recvCell true c 1) 0
        ∗ semVal (credCell false c) 0 ∗ semVal (credCell true c) 0) :=
  Pipeline.ownSems0_eq_of_list c osem [0, 1, 2, 3, 4, 5, 6, 7, 8, 9] (by decide) (by decide)

/-- The one semaphore besides is the barrier's. -/
theorem unscoped_bar (c : Dev nD) : (unscopedSems0 c : sProp 𝕄) = semVal (barCell c) 0 := by
  unfold unscopedSems0; rw [bigSep_eq_bigSepL_of_eq [SemLoc.reg barS] (by decide) (by decide)]; rfl

/-- A device's own semaphores and the barrier's are the eleven. -/
theorem sems_eleven (c : Dev nD) :
    iprop(Pipeline.ownSems0 (Ix := ℕ) (Name := ℕ) (U := UU) (Lvl := ℕ) (Val := Elt F) (τ := τ) osem c ∗ unscopedSems0 c)
      ⊢ (bigSep Finset.univ fun k : Fin 11 => semVal (cellAt (c, k)) 0 : sProp 𝕄) := by
  rw [own_ten, unscoped_bar, eleven (fun g => (semVal g 0 : sProp 𝕄)) c]
  iintro ⟨⟨A0, A1, A2, A3, B0, B1, B2, B3, A4, B4⟩, H⟩
  isplitl [A0]; · iexact A0
  isplitl [A1]; · iexact A1
  isplitl [A2]; · iexact A2
  isplitl [A3]; · iexact A3
  isplitl [B0]; · iexact B0
  isplitl [B1]; · iexact B1
  isplitl [B2]; · iexact B2
  isplitl [B3]; · iexact B3
  isplitl [A4]; · iexact A4
  isplitl [B4] <;> iassumption

/-- A device's semaphores put under the schedule. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Fin 11 => iprop(∃ κ : ℕ, cellInv ER (ringRd (xAt m)) κ (cellAt (c, k))))
          ∗ (bigSep Finset.univ fun k : Fin 11 => atPos ER (cellAt (c, k)) 0 ∅ 0)
          ∗ (bigSep Finset.univ fun k : Fin 11 => reached ER (cellAt (c, k)) 0)
          ∗ (bigSep Finset.univ fun x : Bool × Fin 7 × Fin 3 => tokP (c, x))) := by
  unfold G
  iintro ⟨Hos, Hus, Hst, Hat, Hr, Htok⟩
  ihave Hv := (sems_eleven (F := F) c) $$ [Hos Hus]
  · isplitl [Hos] <;> iassumption
  imod (show iprop((bigSep Finset.univ fun k : Fin 11 => semVal (cellAt (c, k)) 0) ∗ bigSep Finset.univ fun k : Fin 11 => roundState ER (ringRd (xAt m)) (cellAt (c, k)) 0)
      ⊢ (|={Set.univ}=> bigSep Finset.univ fun k => iprop(∃ κ : ℕ, cellInv ER (ringRd (xAt m)) κ (cellAt (c, k))) : sProp 𝕄) from by
        rw [← bigSep_sep']
        exact (bigSep_mono fun k _ => (Rounds.body_intro ER (ringRd (xAt m)) (cellAt (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- What all know goes to each. -/
theorem to_each {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

/-- A device with its own part and what all know has its dealt state. -/
theorem give (K : Dev nD × Fin 11 → ℕ) (c : Dev nD) : iprop(recs₀ m K ∗ linear (F := F) c) ⊢ G' m c := by
  unfold G'
  iintro ⟨#HR, HL⟩
  isplitr; · iexists K; iexact HR
  iexact HL

/-- Every device's own part, from all positions and all tokens. -/
theorem linear_all :
    iprop((bigSep Finset.univ fun c : Dev nD => bigSep Finset.univ fun k : Fin 11 => atPos ER (cellAt (c, k)) 0 ∅ 0)
      ∗ bigSep Finset.univ fun c : Dev nD => iprop(dirToks (F := F) false c ∗ dirToks (F := F) true c))
      ⊢ (bigSep Finset.univ (linear (F := F)) : sProp 𝕄) := by
  rw [← bigSep_sep']; exact .rfl
/-- What all know, from every semaphore's two facts. -/
theorem recs₀_all (K : Dev nD × Fin 11 → ℕ) :
    iprop((bigSep Finset.univ fun p : Dev nD × Fin 11 => cellInv ER (ringRd (xAt m)) (K p) (cellAt p))
      ∗ bigSep Finset.univ fun p : Dev nD × Fin 11 => reached ER (cellAt p) 0) ⊢ recs₀ m K := by
  rw [← bigSep_sep']; exact .rfl

/-- The tokens dealt: each device gets those it pays with. -/
theorem regroup :
    (bigSep Finset.univ fun c : Dev nD => iprop((bigSep Finset.univ fun k : Fin 11 => iprop(∃ κ : ℕ, cellInv ER (ringRd (xAt m)) κ (cellAt (c, k))))
          ∗ (bigSep Finset.univ fun k : Fin 11 => atPos ER (cellAt (c, k)) 0 ∅ 0)
          ∗ (bigSep Finset.univ fun k : Fin 11 => reached ER (cellAt (c, k)) 0)
          ∗ (bigSep Finset.univ fun x : Bool × Fin 7 × Fin 3 => tokP (c, x))) : sProp 𝕄)
      ⊢ bigSep Finset.univ (G' m) := by
  rw [bigSep_sep', bigSep_sep', bigSep_sep', ← bigSep_univ_prod (fun p : Dev nD × Fin 11 => iprop(∃ κ : ℕ, cellInv ER (ringRd (xAt m)) κ (cellAt p))),
    ← bigSep_univ_prod (fun p : Dev nD × Fin 11 => (reached ER (cellAt p) 0 : sProp 𝕄)), ← bigSep_univ_prod (fun x : Tk => tokP (F := F) x),
    toks_dealt]
  iintro ⟨HI, Hat, #HR, Htok⟩
  ihave HK := (BI.bigSep_exists_pi Finset.univ (fun (p : Dev nD × Fin 11) (κ : ℕ) => (cellInv ER (ringRd (xAt m)) κ (cellAt p) : sProp 𝕄))) $$ HI
  icases HK with ⟨%K, #HI⟩
  iapply (to_each (R := recs₀ m K) fun c => give m K c)
  isplitr
  · iapply (recs₀_all m K)
    isplitr; · iexact HI
    iexact HR
  · iapply (linear_all (F := F))
    isplitl [Hat]; · iexact Hat
    iexact Htok

/-- The global step of the launch. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The side conditions -/

/-- What the launch hands a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' linear start
  iintro ⟨-, Hlev, Hcr, -, ⟨%K, HR⟩, Hat, Ht0, Ht1⟩
  ihave Hc := (creds (F := F) c) $$ Hcr
  icases Hc with ⟨HB, H0, H1⟩
  ihave Hp := (positions (F := F) c) $$ Hat
  icases Hp with ⟨HaB, Hp0, Hp1⟩
  imodintro
  isplitl
  · isplitl [HR Hlev]
    · iexists K; unfold recs recs₀
      isplitl [HR] <;> iassumption
    isplitl [HaB HB]
    · unfold barSt; isplitl [HaB] <;> iassumption
    isplitl [Hp0 Ht0 H0]
    · iapply (dir_start false c)
      isplitl [Hp0]; · iexact Hp0
      isplitl [Ht0] <;> iassumption
    iapply (dir_start true c)
    isplitl [Hp1]; · iexact Hp1
    isplitl [Ht1] <;> iassumption
  · iempintro

/-- A landing buffer is all of its array. -/
theorem buf_whole (d : Bool) : (bufM d).view.set = Finset.univ := by cases d <;> exact View.set_whole _

/-- The landing buffers cut into slots before the body, -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, H0⟩, ⟨%g, H1⟩⟩
  isplitl [Hs]; · iexact Hs
  isplitl [H0]
  · iapply (buf_split false c f); rw [buf_whole]; iexact H0
  iapply (buf_split true c g); rw [buf_whole]; iexact H1

/-- and put together after it. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scopedRest0_eq, own_ten, unscoped_bar]
  unfold Φ₁ zeros
  iintro ⟨⟨⟨A0, A1, A2, A3, A4⟩, ⟨B0, B1, B2, B3, B4⟩, H⟩, H0, H1⟩
  isplitl [H]; · iexact H
  isplitl [A0 A1 A2 A3 A4 B0 B1 B2 B3 B4]
  · isplitl [A0]; · iexact A0
    isplitl [A1]; · iexact A1
    isplitl [A2]; · iexact A2
    isplitl [A3]; · iexact A3
    isplitl [B0]; · iexact B0
    isplitl [B1]; · iexact B1
    isplitl [B2]; · iexact B2
    isplitl [B3]; · iexact B3
    isplitl [A4] <;> iassumption
  ihave H0 := (buf_join false c) $$ H0
  ihave H1 := (buf_join true c) $$ H1
  rw [buf_whole, buf_whole]
  isplitl [H0]; · iexact H0
  iexact H1

/-- The staging waits are below everything owed. -/
theorem waits_ok (c : Dev nD) : (levAts L lv : sProp 𝕄) ⊢ Pipeline.cellsWaits cfgs (dats m) 0 0 c :=
  Pipeline.cellsWaits_intro cfgs (dats m) 0 0 c fun w s t => by
    have hlv : lv ((c : Thread nD τ), .dma ((cfg0.win w).sem s)) 0 = 0 := by fin_cases w <;> fin_cases s <;> rfl
    refine mayWait c _ 0 (by omega) _ ?_
    rw [hlv]
    rcases t with ⟨_ | _, ht⟩
    · exact above_O₀ c
    · exact above_zero 0

/-! ## The run -/

/-- What the run leaves in a window's array. -/
def finalA (c : Dev nD) (w : Fin cfg0.W) : Buf (Elt F) ((cfg0.win w).arr.view.loc (c : Thread nD τ)) := (dats m 0 c).arrAt w cfg0.N

set_option maxRecDepth 8000 in
/-- Every fair execution ends, with the windows' arrays at what was computed and every semaphore at zero. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits_ok m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring

end
-- ==== Proof.KernelIdeal.Run.lean ====
/-
# The program's run

The launch's run read buffer by buffer: the arguments unchanged, the result at `outAt`, every semaphore at zero. A window's
one block is its whole array, so what is staged is the argument, and what is written back is the result.
-/
module

public import proofs.«01_k».proof.Proof.KernelIdeal.Launch
public import Idealize.ShloMosaic.Lib.Pipeline.Value

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window)

variable {F : FTy → Type} [FloatOps F]

local notation "𝕄" => MT nD τ sig ℕ (Elt F) ℕ UU ℕ

variable (m : (ℓ : Loc nD τ sig) → Buf (Elt F) ℓ) (ρ : Dev nD → PrngReg)

/-- The block of `x` is its whole array. -/
theorem emb_x (y : S512x4096.Idx) : (win0_0.blk (0 : Fin 1)).view.emb y = y := by
  funext a; apply Fin.ext; exact Window.rect_emb_val_of_index_zero win0_0 (0 : Fin 1) a rfl y
/-- The block of `w` is its whole array. -/
theorem emb_w (y : S4096x1024.Idx) : (win0_1.blk (0 : Fin 1)).view.emb y = y := by
  funext a; apply Fin.ext; exact Window.rect_emb_val_of_index_zero win0_1 (0 : Fin 1) a rfl y
/-- The block of the result is its whole array. -/
theorem emb_out (y : S4096x1024.Idx) : (win0_2.blk (0 : Fin 1)).view.emb y = y := by
  funext a; apply Fin.ext; exact Window.rect_emb_val_of_index_zero win0_2 (0 : Fin 1) a rfl y

/-- What is staged of `x` is the argument. -/
theorem xAt_eq (c : Dev nD) : xAt m c = m ((c : Thread nD τ).loc main_arg0) := by
  funext y; unfold xAt; rw [View.read_apply, emb_x]; rfl
/-- What is staged of `w` is the argument. -/
theorem wAt_eq (c : Dev nD) : wAt m c = m ((c : Thread nD τ).loc main_arg1) := by
  funext y; unfold wAt; rw [View.read_apply, emb_w]; rfl

/-- The result's array ends at what the body left. -/
theorem final_out (c : Dev nD) : finalA m c (2 : Fin 3) = outAt m c := by
  funext y
  have h := Pipeline.Dat.arrAt_emb_eq_flushed (dats m 0 c) (2 : Fin 3)
    (fun t t' _ _ hne => absurd ((fin_N0 t).trans (fin_N0 t').symm) hne) t0_0 (flush0_2 t0_0) y
  have e : ((cfg0.win (2 : Fin 3)).blk t0_0).view.emb y = y := emb_out y
  rw [e] at h
  exact h

/-- Every weakly fair execution ends with the arguments unchanged, the result at `outAt` on every device, and every
    semaphore at zero. -/
theorem run : θ_run defs (onTc (τ := τ) (main (F := F))) ⟨m, fun _ => 0, ρ⟩
    (fun r => (∀ c : Dev nD, r.2.mem ((c : Thread nD τ).loc main_v1) = outAt m c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ h => ⟨fun c => ⟨(h.1 c (2 : Fin 3)).trans (final_out m c),
      (h.1 c (0 : Fin 3)).trans (Pipeline.Dat.arrAt_in (dats m 0 c) (0 : Fin 3) rfl _),
      (h.1 c (1 : Fin 3)).trans (Pipeline.Dat.arrAt_in (dats m 0 c) (1 : Fin 3) rfl _)⟩, h.2⟩)
    (run_main m ρ)

/-- The frame: the arguments end unchanged, and every semaphore at zero. -/
theorem frame_run : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ h => ⟨fun c => (h.1 c).2, h.2⟩) (run m ρ)

end Cert.KernelIdeal.Ring

end
-- ==== Proof.Equation.lean ====
/-
# The equation

At exact values the kernel's result, on every device, is its block of columns of the product of the whole arrays: an entry of
either is the sum over the shared coordinate of the products of the entries.
-/
module

public import proofs.«01_k».proof.Proof.KernelIdeal.Run
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.Equation

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Cert.KernelIdeal.Ring Idealize.ShloMosaic.ValueIdx

/-- An entry of a half block's product. -/
theorem dotH_apply (A : Vec Ideal S256x4096 .f32) (w : Vec Ideal S4096x1024 .f32) (i : Fin 256) (j : Fin 1024) :
    dotH A w (ix2 i j) = ∑ k : Fin 4096, A (ix2 i k) * w (ix2 k j) := by
  unfold dotH
  rw [shapeCast_self, show dot_S256x4096_S4096x1024_S256x1024_1_0_0_1_n_n = DotDims.plain 256 4096 1024 from rfl]
  refine (Ideal.matmul_plain_apply none A w _ i j).trans ?_
  rw [show (constant (F := Ideal) S256x1024 .f32 0x00000000#32) (ix2 i j) = 0 from Ideal.ofBits_zero_f32]
  exact zero_add _

/-- An entry of the whole block's product. -/
theorem own_apply (A : Vec Ideal S512x4096 .f32) (w : Vec Ideal S4096x1024 .f32) (i : Fin 512) (j : Fin 1024) :
    k0_pay1 A w (ix2 i j) = ∑ k : Fin 4096, A (ix2 i k) * w (ix2 k j) := by
  unfold k0_pay1
  simp only [shapeCast_self]
  rw [show dot_S512x4096_S4096x1024_S512x1024_1_0_0_1_n_n = DotDims.plain 512 4096 1024 from rfl]
  refine (Ideal.matmul_plain_apply none A w _ i j).trans ?_
  rw [show (constant (F := Ideal) S512x1024 .f32 0x00000000#32) (ix2 i j) = 0 from Ideal.ofBits_zero_f32]
  exact zero_add _

/-- Where a half block's row is in the block. -/
theorem half_apply (d : Bool) (x : Vec Ideal S512x4096 .f32) (i : Fin 256) (k : Fin 4096) (r : Fin 512) (hr : r.val = halfOff d + i.val) :
    half d x (ix2 i k) = x (ix2 r k) := by
  refine congrArg x ?_
  show (halfM d).view.emb (ix2 i k) = ix2 r k
  funext a; apply Fin.ext
  match a with
  | ⟨0, _⟩ => cases d <;> (rw [hr]; show _ + 1 * _ = _; rw [Nat.one_mul]; rfl)
  | ⟨1, _⟩ => cases d <;> (show 0 + 1 * _ = _; rw [Nat.one_mul, Nat.zero_add])

/-- An entry of a device's result: the row of `x` it belongs to, by the column of the device's block of `w`. -/
theorem val_apply (X : Dev nD → Vec Ideal S512x4096 .f32) (w : Vec Ideal S4096x1024 .f32) (c : Dev nD) (i : Fin 4096) (j : Fin 1024)
    (s : Dev nD) (r : Fin 512) (hi : i.val = 512 * s.val + r.val) :
    val X w c (ix2 i j) = ∑ k : Fin 4096, X s (ix2 r k) * w (ix2 k j) := by
  by_cases hs : s = c
  · subst hs
    rw [← val_own X w s (ix2 i j) (ix2 r j) hi rfl, own_apply]
  obtain ⟨d, q, hq⟩ : ∃ (d : Bool) (q : Fin 256), r.val = halfOff d + q.val := by
    have := r.isLt
    by_cases h : r.val < 256
    · exact ⟨false, ⟨r.val, h⟩, (Nat.zero_add _).symm⟩
    · exact ⟨true, ⟨r.val - 256, by omega⟩, by show r.val = 256 + (r.val - 256); omega⟩
  rw [← val_half X w c s hs d (ix2 i j) (ix2 q j) (by show i.val = 512 * s.val + halfOff d + q.val; omega) rfl, dotH_apply]
  exact Finset.sum_congr rfl fun k _ => by rw [half_apply d (X s) q k r hq]

/-- An entry of the reference's product. -/
theorem ref_apply (A : Vec Ideal ⟨2, ![4096, 4096]⟩ .f32) (B : Vec Ideal ⟨2, ![4096, 8192]⟩ .f32) (i : Fin 4096) (j : Fin 8192) :
    Host.dotGeneral (F := Ideal) (φ₁ := .f32) (φ₂ := .f32) Cert.ReferenceIdeal.dot_S4096x4096_S4096x8192_S4096x8192_1_0_0_1_n_n none A B (ix2 i j)
      = ∑ k : Fin 4096, A (ix2 i k) * B (ix2 k j) :=
  StackMember.dotGeneral_plain_apply none A B i j

/-- A device's result from its blocks of the arrays is its block of the arrays' product. -/
theorem val_eq_block (A : Vec Ideal ⟨2, ![4096, 4096]⟩ .f32) (B : Vec Ideal ⟨2, ![4096, 8192]⟩ .f32) (c : Dev nD) :
    val (fun s => Layout.block ⟨2, ![512, 4096]⟩ ⟨2, ![4096, 4096]⟩ 0 8 s A) (Layout.block ⟨2, ![4096, 1024]⟩ ⟨2, ![4096, 8192]⟩ 1 8 c B) c
      = Layout.block ⟨2, ![4096, 1024]⟩ ⟨2, ![4096, 8192]⟩ 1 8 c
          (Host.dotGeneral (F := Ideal) (φ₁ := .f32) (φ₂ := .f32) Cert.ReferenceIdeal.dot_S4096x4096_S4096x8192_S4096x8192_1_0_0_1_n_n none A B) := by
  funext y
  obtain ⟨i, j, rfl⟩ : ∃ (i : Fin 4096) (j : Fin 1024), y = ix2 i j := ⟨y 0, y 1, eq_ix2 y⟩
  have hi := i.isLt
  have hj := j.isLt
  have hc : c.val < 8 := c.isLt
  rw [val_apply _ _ c i j ⟨i.val / 512, by show _ < 8; omega⟩ ⟨i.val % 512, Nat.mod_lt _ (by decide)⟩ (Nat.div_add_mod i.val 512).symm]
  have hJ : c.val * 1024 + j.val < 8192 := by omega
  have hY : ∀ h : Layout.Tiles ⟨2, ![4096, 1024]⟩ ⟨2, ![4096, 8192]⟩ 1 8, h.idx c (ix2 i j) = ix2 i (⟨c.val * 1024 + j.val, hJ⟩ : Fin 8192) := fun h => by
    funext a; apply Fin.ext
    match a with
    | ⟨0, _⟩ => rfl
    | ⟨1, _⟩ => rfl
  rw [Layout.block_apply, hY, ref_apply]
  refine Finset.sum_congr rfl fun k _ => ?_
  rw [Layout.block_apply, Layout.block_apply]
  congr 2
  · funext a; apply Fin.ext
    match a with
    | ⟨0, _⟩ => show i.val / 512 * 512 + i.val % 512 = i.val; omega
    | ⟨1, _⟩ => rfl
  · funext a; apply Fin.ext
    match a with
    | ⟨0, _⟩ => rfl
    | ⟨1, _⟩ => rfl

end Cert.Equation

end
-- ==== Proof.lean ====
/-
# The certificate

Each claim from its part: the two programs' runs from `Kernel/Run` and `KernelIdeal/Run`, the reference's from its host
operation's run, and the value from `Equation`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Equation
public import Idealize.ShloMosaic.Adequacy
public import Idealize.ShloMosaic.Init

@[expose] public section

noncomputable section

namespace Cert.Proof

open Idealize.ShloMosaic Idealize.SL.Sem

/-- `Kernel` runs, its arguments unchanged and every semaphore at zero. -/
theorem kernel_runs : Cert.quiescent_Kernel (hKernel := Cert.Kernel.Gen.facts) := fun m g _ => Cert.Kernel.Ring.frame_run m g

/-- `KernelIdeal` runs, its arguments unchanged and every semaphore at zero. -/
theorem kernelIdeal_runs : Cert.quiescent_KernelIdeal (hKernelIdeal := Cert.KernelIdeal.Gen.facts) :=
  fun m g _ => Cert.KernelIdeal.Ring.frame_run m g

/-- `ReferenceIdeal` runs, its arguments unchanged and every semaphore at zero: it has none. -/
theorem reference_runs : Cert.quiescent_ReferenceIdeal (hReferenceIdeal := Cert.ReferenceIdeal.Gen.facts) := fun m g _ =>
  (θ_run Cert.ReferenceIdeal.defs _ _).mono (fun r h => ⟨fun c => (h c).2, funext fun s => by
    obtain ⟨_, x | x⟩ := s <;> exact x.elim0⟩)
    (Cert.ReferenceIdeal.Value.run (F := Ideal) m g)

/-- The kernel computes what the reference computes, at exact values. -/
theorem kernel_eq_reference : Cert.algebraic_KernelIdeal_ReferenceIdeal
    (hKernelIdeal := Cert.KernelIdeal.Gen.facts) (hReferenceIdeal := Cert.ReferenceIdeal.Gen.facts) := fun m g m' g' _ hag =>
  ⟨_, (θ_run Cert.KernelIdeal.defs _ _).mono (fun r h c => ⟨(h.1 c).1.trans (by
      have hX : Cert.KernelIdeal.Ring.xAt m = fun s => _ := funext fun s => (Cert.KernelIdeal.Ring.xAt_eq m s).trans (hag s).1
      unfold Cert.KernelIdeal.Ring.outAt
      rw [hX, (Cert.KernelIdeal.Ring.wAt_eq m c).trans (hag c).2]
      exact Cert.Equation.val_eq_block _ _ c), (h.1 c).2⟩)
      (Cert.KernelIdeal.Ring.run (F := Ideal) m g),
    (θ_run Cert.ReferenceIdeal.defs _ _).mono (fun r h => h 0) (Cert.ReferenceIdeal.Value.run (F := Ideal) m' g')⟩

/-- Every claim of the certificate. -/
theorem claim : Cert.Claim := ⟨Cert.Kernel.Gen.facts, Cert.KernelIdeal.Gen.facts, Cert.ReferenceIdeal.Gen.facts,
  kernel_runs, kernelIdeal_runs, reference_runs, trivial, kernel_eq_reference⟩

end Cert.Proof

end
